-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "scale" .f32 0x44B4563E#32 ((1000 * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v232) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S4x21x512x512 : Shape := ⟨4, ![4, 21, 512, 512]⟩
abbrev S4x21 : Shape := ⟨2, ![4, 21]⟩
abbrev S_ : Shape := ⟨0, ![]⟩

class Facts : Prop where
  bcast_S_S4x21x512x512 : S_.BroadcastsInDim S4x21x512x512 (![] : Fin 0 → Fin S4x21x512x512.rank)
  reducesTo_S4x21x512x512_S_d0_1_2_3 : S4x21x512x512.ReducesTo [0, 1, 2, 3] S_
  h_S_ : 0 < S_.numel

variable [Facts]

def fn {F : FTy → Type} [FloatOps F] (main_arg0 : FVec F S4x21x512x512 .f32) (main_arg1 : FVec F S4x21 .f32) : IVec S_ 1 :=
  let main_v0 : FVec F S4x21x512x512 .f32 := Host.absf main_arg0
  let main_cst : FVec F S_ .f32 := constant S_ .f32 0x7F800000#32
  let main_v1 : FVec F S4x21x512x512 .f32 := broadcastInDim S4x21x512x512 ![] bcast_S_S4x21x512x512 main_cst
  let main_v2 : IVec S4x21x512x512 1 := cmpf .olt main_v0 main_v1
  let main_c : IVec S_ 1 := constantI S_ 1 1#1
  let main_v3 : IVec S_ 1 := (fun x v => Host.reduce IntOp.andi x v reducesTo_S4x21x512x512_S_d0_1_2_3 h_S_) main_v2 main_c
  main_v3
-- ==== Kernel.lean ====
abbrev S4x21x512x512 : Shape := ⟨4, ![4, 21, 512, 512]⟩
abbrev S4x21 : Shape := ⟨2, ![4, 21]⟩
abbrev S_ : Shape := ⟨0, ![]⟩
abbrev S1 : Shape := ⟨1, ![1]⟩
abbrev S4 : Shape := ⟨1, ![4]⟩
abbrev S1x1 : Shape := ⟨2, ![1, 1]⟩
abbrev S1x21x256x512 : Shape := ⟨4, ![1, 21, 256, 512]⟩
abbrev S520x512 : Shape := ⟨2, ![520, 512]⟩
abbrev S2x512 : Shape := ⟨2, ![2, 512]⟩
abbrev S6x512 : Shape := ⟨2, ![6, 512]⟩
abbrev S1x1x16x512 : Shape := ⟨4, ![1, 1, 16, 512]⟩
abbrev S16x512 : Shape := ⟨2, ![16, 512]⟩
abbrev S8x512 : Shape := ⟨2, ![8, 512]⟩
abbrev S12x512 : Shape := ⟨2, ![12, 512]⟩
abbrev S8x2 : Shape := ⟨2, ![8, 2]⟩
abbrev S8x510 : Shape := ⟨2, ![8, 510]⟩
abbrev S8x1 : Shape := ⟨2, ![8, 1]⟩
abbrev S8x511 : Shape := ⟨2, ![8, 511]⟩
abbrev S12x2 : Shape := ⟨2, ![12, 2]⟩
abbrev S12x510 : Shape := ⟨2, ![12, 510]⟩
abbrev S12x1 : Shape := ⟨2, ![12, 1]⟩
abbrev S12x511 : Shape := ⟨2, ![12, 511]⟩
abbrev S1x8x512 : Shape := ⟨3, ![1, 8, 512]⟩
abbrev S1x1x1 : Shape := ⟨3, ![1, 1, 1]⟩

abbrev nBuf : Space → Nat
  | .hbm => 11
  | .vmem => 4
  | .smem => 1
  | _ => 0

abbrev bufTy : (tb : Table) → Fin (tcTables nBuf tb) → BufTy
  | .hbm, ⟨0, _⟩ => ⟨S4x21x512x512, .f32⟩
  | .hbm, ⟨1, _⟩ => ⟨S4x21, .f32⟩
  | .hbm, ⟨2, _⟩ => ⟨S_, .i32⟩
  | .hbm, ⟨3, _⟩ => ⟨S1, .i32⟩
  | .hbm, ⟨4, _⟩ => ⟨S_, .f32⟩
  | .hbm, ⟨5, _⟩ => ⟨S4, .f32⟩
  | .hbm, ⟨6, _⟩ => ⟨S4x21, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x21x256x512, .f32⟩
  | .local _ .vmem, ⟨1, _⟩ => ⟨S1x21x256x512, .f32⟩
  | .local _ .vmem, ⟨2, _⟩ => ⟨S1x1, .f32⟩
  | .local _ .vmem, ⟨3, _⟩ => ⟨S520x512, .f32⟩
  | .local _ .smem, ⟨0, _⟩ => ⟨S4x21, .f32⟩
  | _, _ => ⟨S4x21x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_scratch0 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨2, ![4, 2], ![false, false]⟩

def k0_off1 (i : grid0.Coords) : Fin 2 → Nat :=
  let arg0 : BitVec 32 := BitVec.ofNat 32 (i 0).val
  let v77 : Index := Scalar.indexCast arg0
  let c1_73 : Index := 1#32
  ![v77.toNat, 1]
def k0_off2 (i : grid0.Coords) : Fin 2 → Nat :=
  let arg0 : BitVec 32 := BitVec.ofNat 32 (i 0).val
  let v88 : Index := Scalar.indexCast arg0
  let c2_79 : Index := 2#32
  ![v88.toNat, 2]
def k0_off3 (i : grid0.Coords) : Fin 2 → Nat :=
  let arg0 : BitVec 32 := BitVec.ofNat 32 (i 0).val
  let v99 : Index := Scalar.indexCast arg0
  let c3_85 : Index := 3#32
  ![v99.toNat, 3]
def k0_off4 (i : grid0.Coords) : Fin 2 → Nat :=
  let arg0 : BitVec 32 := BitVec.ofNat 32 (i 0).val
  let v111 : Index := Scalar.indexCast arg0
  let c4_91 : Index := 4#32
  ![v111.toNat, 4]
def k0_off5 (i : grid0.Coords) : Fin 2 → Nat :=
  let arg0 : BitVec 32 := BitVec.ofNat 32 (i 0).val
  let v123 : Index := Scalar.indexCast arg0
  let c5_97 : Index := 5#32
  ![v123.toNat, 5]
def k0_off6 (i : grid0.Coords) : Fin 2 → Nat :=
  let arg0 : BitVec 32 := BitVec.ofNat 32 (i 0).val
  let v135 : Index := Scalar.indexCast arg0
  let c6_103 : Index := 6#32
  ![v135.toNat, 6]
def k0_off7 (i : grid0.Coords) : Fin 2 → Nat :=
  let arg0 : BitVec 32 := BitVec.ofNat 32 (i 0).val
  let v147 : Index := Scalar.indexCast arg0
  let c7_109 : Index := 7#32
  ![v147.toNat, 7]
def k0_off8 (i : grid0.Coords) : Fin 2 → Nat :=
  let arg0 : BitVec 32 := BitVec.ofNat 32 (i 0).val
  let v159 : Index := Scalar.indexCast arg0
  let c8_115 : Index := 8#32
  ![v159.toNat, 8]
def k0_off9 (i : grid0.Coords) : Fin 2 → Nat :=
  let arg0 : BitVec 32 := BitVec.ofNat 32 (i 0).val
  let v171 : Index := Scalar.indexCast arg0
  let c9_121 : Index := 9#32
  ![v171.toNat, 9]
def k0_off10 (i : grid0.Coords) : Fin 2 → Nat :=
  let arg0 : BitVec 32 := BitVec.ofNat 32 (i 0).val
  let v183 : Index := Scalar.indexCast arg0
  let c10_127 : Index := 10#32
  ![v183.toNat, 10]
def k0_off11 (i : grid0.Coords) : Fin 2 → Nat :=
  let arg0 : BitVec 32 := BitVec.ofNat 32 (i 0).val
  let v195 : Index := Scalar.indexCast arg0
  let c11_133 : Index := 11#32
  ![v195.toNat, 11]
def k0_off12 (i : grid0.Coords) : Fin 2 → Nat :=
  let arg0 : BitVec 32 := BitVec.ofNat 32 (i 0).val
  let v207 : Index := Scalar.indexCast arg0
  let c12_139 : Index := 12#32
  ![v207.toNat, 12]
def k0_off13 (i : grid0.Coords) : Fin 2 → Nat :=
  let arg0 : BitVec 32 := BitVec.ofNat 32 (i 0).val
  let v219 : Index := Scalar.indexCast arg0
  let c13_145 : Index := 13#32
  ![v219.toNat, 13]
def k0_off14 (i : grid0.Coords) : Fin 2 → Nat :=
  let arg0 : BitVec 32 := BitVec.ofNat 32 (i 0).val
  let v231 : Index := Scalar.indexCast arg0
  let c14_151 : Index := 14#32
  ![v231.toNat, 14]
def k0_off15 (i : grid0.Coords) : Fin 2 → Nat :=
  let arg0 : BitVec 32 := BitVec.ofNat 32 (i 0).val
  let v243 : Index := Scalar.indexCast arg0
  let c15_157 : Index := 15#32
  ![v243.toNat, 15]
def k0_off16 (i : grid0.Coords) : Fin 2 → Nat :=
  let arg0 : BitVec 32 := BitVec.ofNat 32 (i 0).val
  let v255 : Index := Scalar.indexCast arg0
  let c16_163 : Index := 16#32
  ![v255.toNat, 16]
def k0_off17 (i : grid0.Coords) : Fin 2 → Nat :=
  let arg0 : BitVec 32 := BitVec.ofNat 32 (i 0).val
  let v267 : Index := Scalar.indexCast arg0
  let c17_169 : Index := 17#32
  ![v267.toNat, 17]
def k0_off18 (i : grid0.Coords) : Fin 2 → Nat :=
  let arg0 : BitVec 32 := BitVec.ofNat 32 (i 0).val
  let v279 : Index := Scalar.indexCast arg0
  let c18_175 : Index := 18#32
  ![v279.toNat, 18]
def k0_off19 (i : grid0.Coords) : Fin 2 → Nat :=
  let arg0 : BitVec 32 := BitVec.ofNat 32 (i 0).val
  let v291 : Index := Scalar.indexCast arg0
  let c19_181 : Index := 19#32
  ![v291.toNat, 19]
def k0_off20 (i : grid0.Coords) : Fin 2 → Nat :=
  let arg0 : BitVec 32 := BitVec.ofNat 32 (i 0).val
  let v303 : Index := Scalar.indexCast arg0
  let c20_187 : Index := 20#32
  ![v303.toNat, 20]
def k0_cond34 (i : grid0.Coords) : BitVec 1 :=
  let arg1 : BitVec 32 := BitVec.ofNat 32 (i 1).val
  let c1_i32_3372 : BitVec 32 := 1#32
  let v5027 : BitVec 1 := Scalar.cmpi .eq arg1 c1_i32_3372
  let v5028 : BitVec 32 := Scalar.extui v5027
  let c0_i32_3373 : BitVec 32 := 0#32
  let v5029 : BitVec 1 := Scalar.cmpi .ne v5028 c0_i32_3373
  v5029

def k0_cond35 (i : grid0.Coords) : BitVec 1 :=
  let arg0 : BitVec 32 := BitVec.ofNat 32 (i 0).val
  let c0_i32_4748 : BitVec 32 := 0#32
  let v9833 : BitVec 1 := Scalar.cmpi .eq arg0 c0_i32_4748
  let v9834 : BitVec 32 := Scalar.extui v9833
  let c0_i32_4749 : BitVec 32 := 0#32
  let v9835 : BitVec 1 := Scalar.cmpi .ne v9834 c0_i32_4749
  v9835

def k0_cond36 (i : grid0.Coords) : BitVec 1 :=
  let arg0 : BitVec 32 := BitVec.ofNat 32 (i 0).val
  let c0_i32_4750 : BitVec 32 := 0#32
  let v9836 : BitVec 1 := Scalar.cmpi .sgt arg0 c0_i32_4750
  let v9837 : BitVec 32 := Scalar.extui v9836
  let c0_i32_4751 : BitVec 32 := 0#32
  let v9838 : BitVec 1 := Scalar.cmpi .ne v9837 c0_i32_4751
  v9838

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S4x21 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x21x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== KernelIdeal.lean ====
variable {F : FTy → Type} [FloatOps F] [Named F]
def κ : String → Option EReal := fun
  | "scale" => some ((1000 * (Real.log 2)⁻¹ : ℝ) : EReal)
  | _ => none
-- ==== ReferenceIdeal.lean ====
abbrev S4x21x512x512 : Shape := ⟨4, ![4, 21, 512, 512]⟩
abbrev S4x21 : Shape := ⟨2, ![4, 21]⟩
abbrev S_ : Shape := ⟨0, ![]⟩
abbrev S4x512x512 : Shape := ⟨3, ![4, 512, 512]⟩
abbrev S4x1x512x512 : Shape := ⟨4, ![4, 1, 512, 512]⟩
abbrev S4x20x512x512 : Shape := ⟨4, ![4, 20, 512, 512]⟩
abbrev S4x20x516x516 : Shape := ⟨4, ![4, 20, 516, 516]⟩
abbrev S4x20x1x512x512 : Shape := ⟨5, ![4, 20, 1, 512, 512]⟩
abbrev S4x20x2x512x512 : Shape := ⟨5, ![4, 20, 2, 512, 512]⟩
abbrev S4x20 : Shape := ⟨2, ![4, 20]⟩
abbrev S4x20x1x1x1 : Shape := ⟨5, ![4, 20, 1, 1, 1]⟩
abbrev S4x2x512x512 : Shape := ⟨4, ![4, 2, 512, 512]⟩

abbrev nBuf : Space → Nat
  | .hbm => 300
  | .vmem => 0
  | .smem => 0
  | _ => 0

abbrev hbmTy0_0 (i : Nat) : BufTy := match i % 128 with
  | 0 => ⟨S4x21x512x512, .f32⟩
  | 1 => ⟨S4x21, .f32⟩
  | 2 => ⟨S_, .f32⟩
  | 3 => ⟨S4x21x512x512, .f32⟩
  | 4 => ⟨S4x21x512x512, .f32⟩
  | 5 => ⟨S_, .f32⟩
  | 6 => ⟨S4x512x512, .f32⟩
  | 7 => ⟨S_, .f32⟩
  | 8 => ⟨S4x512x512, .f32⟩
  | 9 => ⟨S4x512x512, .f32⟩
  | 10 => ⟨S4x1x512x512, .f32⟩
  | 11 => ⟨S4x21x512x512, .f32⟩
  | 12 => ⟨S4x21x512x512, .f32⟩
  | 13 => ⟨S4x21x512x512, .f32⟩
  | 14 => ⟨S_, .f32⟩
  | 15 => ⟨S4x512x512, .f32⟩
  | 16 => ⟨S4x1x512x512, .f32⟩
  | 17 => ⟨S4x21x512x512, .f32⟩
  | 18 => ⟨S4x21x512x512, .f32⟩
  | 19 => ⟨S4x20x512x512, .f32⟩
  | 20 => ⟨S_, .i32⟩
  | 21 => ⟨S_, .f32⟩
  | 22 => ⟨S4x20x516x516, .f32⟩
  | 23 => ⟨S4x20x512x512, .f32⟩
  | 24 => ⟨S_, .f32⟩
  | 25 => ⟨S4x20x512x512, .f32⟩
  | 26 => ⟨S4x20x512x512, .f32⟩
  | 27 => ⟨S_, .f32⟩
  | 28 => ⟨S4x20x512x512, .f32⟩
  | 29 => ⟨S4x20x512x512, .f32⟩
  | 30 => ⟨S4x20x512x512, .f32⟩
  | 31 => ⟨S_, .f32⟩
  | 32 => ⟨S4x20x512x512, .f32⟩
  | 33 => ⟨S4x20x512x512, .f32⟩
  | 34 => ⟨S4x20x512x512, .f32⟩
  | 35 => ⟨S4x20x512x512, .f32⟩
  | 36 => ⟨S_, .f32⟩
  | 37 => ⟨S4x20x512x512, .f32⟩
  | 38 => ⟨S4x20x512x512, .f32⟩
  | 39 => ⟨S4x20x512x512, .f32⟩
  | 40 => ⟨S4x20x512x512, .f32⟩
  | 41 => ⟨S_, .f32⟩
  | 42 => ⟨S4x20x512x512, .f32⟩
  | 43 => ⟨S4x20x512x512, .f32⟩
  | 44 => ⟨S4x20x512x512, .f32⟩
  | 45 => ⟨S4x20x512x512, .f32⟩
  | 46 => ⟨S_, .f32⟩
  | 47 => ⟨S4x20x512x512, .f32⟩
  | 48 => ⟨S4x20x512x512, .f32⟩
  | 49 => ⟨S4x20x512x512, .f32⟩
  | 50 => ⟨S4x20x512x512, .f32⟩
  | 51 => ⟨S_, .f32⟩
  | 52 => ⟨S4x20x512x512, .f32⟩
  | 53 => ⟨S4x20x512x512, .f32⟩
  | 54 => ⟨S4x20x512x512, .f32⟩
  | 55 => ⟨S4x20x512x512, .f32⟩
  | 56 => ⟨S_, .f32⟩
  | 57 => ⟨S4x20x512x512, .f32⟩
  | 58 => ⟨S4x20x512x512, .f32⟩
  | 59 => ⟨S4x20x512x512, .f32⟩
  | 60 => ⟨S4x20x512x512, .f32⟩
  | 61 => ⟨S_, .f32⟩
  | 62 => ⟨S4x20x512x512, .f32⟩
  | 63 => ⟨S4x20x512x512, .f32⟩
  | 64 => ⟨S4x20x512x512, .f32⟩
  | 65 => ⟨S4x20x512x512, .f32⟩
  | 66 => ⟨S_, .f32⟩
  | 67 => ⟨S4x20x512x512, .f32⟩
  | 68 => ⟨S4x20x512x512, .f32⟩
  | 69 => ⟨S4x20x512x512, .f32⟩
  | 70 => ⟨S4x20x512x512, .f32⟩
  | 71 => ⟨S_, .f32⟩
  | 72 => ⟨S4x20x512x512, .f32⟩
  | 73 => ⟨S4x20x512x512, .f32⟩
  | 74 => ⟨S4x20x512x512, .f32⟩
  | 75 => ⟨S4x20x512x512, .f32⟩
  | 76 => ⟨S_, .f32⟩
  | 77 => ⟨S4x20x512x512, .f32⟩
  | 78 => ⟨S4x20x512x512, .f32⟩
  | 79 => ⟨S4x20x512x512, .f32⟩
  | 80 => ⟨S4x20x512x512, .f32⟩
  | 81 => ⟨S_, .f32⟩
  | 82 => ⟨S4x20x512x512, .f32⟩
  | 83 => ⟨S4x20x512x512, .f32⟩
  | 84 => ⟨S4x20x512x512, .f32⟩
  | 85 => ⟨S4x20x512x512, .f32⟩
  | 86 => ⟨S_, .f32⟩
  | 87 => ⟨S4x20x512x512, .f32⟩
  | 88 => ⟨S4x20x512x512, .f32⟩
  | 89 => ⟨S4x20x512x512, .f32⟩
  | 90 => ⟨S4x20x512x512, .f32⟩
  | 91 => ⟨S_, .f32⟩
  | 92 => ⟨S4x20x512x512, .f32⟩
  | 93 => ⟨S4x20x512x512, .f32⟩
  | 94 => ⟨S4x20x512x512, .f32⟩
  | 95 => ⟨S4x20x512x512, .f32⟩
  | 96 => ⟨S_, .f32⟩
  | 97 => ⟨S4x20x512x512, .f32⟩
  | 98 => ⟨S4x20x512x512, .f32⟩
  | 99 => ⟨S4x20x512x512, .f32⟩
  | 100 => ⟨S4x20x512x512, .f32⟩
  | 101 => ⟨S_, .f32⟩
  | 102 => ⟨S4x20x512x512, .f32⟩
  | 103 => ⟨S4x20x512x512, .f32⟩
  | 104 => ⟨S4x20x512x512, .f32⟩
  | 105 => ⟨S4x20x512x512, .f32⟩
  | 106 => ⟨S_, .f32⟩
  | 107 => ⟨S4x20x512x512, .f32⟩
  | 108 => ⟨S4x20x512x512, .f32⟩
  | 109 => ⟨S4x20x512x512, .f32⟩
  | 110 => ⟨S4x20x512x512, .f32⟩
  | 111 => ⟨S_, .f32⟩
  | 112 => ⟨S4x20x512x512, .f32⟩
  | 113 => ⟨S4x20x512x512, .f32⟩
  | 114 => ⟨S4x20x512x512, .f32⟩
  | 115 => ⟨S4x20x512x512, .f32⟩
  | 116 => ⟨S_, .f32⟩
  | 117 => ⟨S4x20x512x512, .f32⟩
  | 118 => ⟨S4x20x512x512, .f32⟩
  | 119 => ⟨S4x20x512x512, .f32⟩
  | 120 => ⟨S4x20x512x512, .f32⟩
  | 121 => ⟨S_, .f32⟩
  | 122 => ⟨S4x20x512x512, .f32⟩
  | 123 => ⟨S4x20x512x512, .f32⟩
  | 124 => ⟨S4x20x512x512, .f32⟩
  | 125 => ⟨S4x20x512x512, .f32⟩
  | 126 => ⟨S_, .f32⟩
  | 127 => ⟨S4x20x512x512, .f32⟩
  | _ => ⟨S4x21x512x512, .f32⟩

abbrev hbmTy0_1 (i : Nat) : BufTy := match i % 128 with
  | 0 => ⟨S4x20x512x512, .f32⟩
  | 1 => ⟨S4x20x512x512, .f32⟩
  | 2 => ⟨S4x20x512x512, .f32⟩
  | 3 => ⟨S_, .f32⟩
  | 4 => ⟨S4x20x512x512, .f32⟩
  | 5 => ⟨S4x20x512x512, .f32⟩
  | 6 => ⟨S4x20x512x512, .f32⟩
  | 7 => ⟨S4x20x512x512, .f32⟩
  | 8 => ⟨S_, .f32⟩
  | 9 => ⟨S4x20x512x512, .f32⟩
  | 10 => ⟨S4x20x512x512, .f32⟩
  | 11 => ⟨S4x20x512x512, .f32⟩
  | 12 => ⟨S4x20x512x512, .f32⟩
  | 13 => ⟨S_, .f32⟩
  | 14 => ⟨S4x20x512x512, .f32⟩
  | 15 => ⟨S4x20x512x512, .f32⟩
  | 16 => ⟨S4x20x512x512, .f32⟩
  | 17 => ⟨S4x20x512x512, .f32⟩
  | 18 => ⟨S_, .f32⟩
  | 19 => ⟨S4x20x512x512, .f32⟩
  | 20 => ⟨S4x20x512x512, .f32⟩
  | 21 => ⟨S4x20x512x512, .f32⟩
  | 22 => ⟨S_, .i32⟩
  | 23 => ⟨S_, .f32⟩
  | 24 => ⟨S4x20x516x516, .f32⟩
  | 25 => ⟨S4x20x512x512, .f32⟩
  | 26 => ⟨S_, .f32⟩
  | 27 => ⟨S4x20x512x512, .f32⟩
  | 28 => ⟨S4x20x512x512, .f32⟩
  | 29 => ⟨S_, .f32⟩
  | 30 => ⟨S4x20x512x512, .f32⟩
  | 31 => ⟨S4x20x512x512, .f32⟩
  | 32 => ⟨S4x20x512x512, .f32⟩
  | 33 => ⟨S_, .f32⟩
  | 34 => ⟨S4x20x512x512, .f32⟩
  | 35 => ⟨S4x20x512x512, .f32⟩
  | 36 => ⟨S4x20x512x512, .f32⟩
  | 37 => ⟨S4x20x512x512, .f32⟩
  | 38 => ⟨S_, .f32⟩
  | 39 => ⟨S4x20x512x512, .f32⟩
  | 40 => ⟨S4x20x512x512, .f32⟩
  | 41 => ⟨S4x20x512x512, .f32⟩
  | 42 => ⟨S4x20x512x512, .f32⟩
  | 43 => ⟨S_, .f32⟩
  | 44 => ⟨S4x20x512x512, .f32⟩
  | 45 => ⟨S4x20x512x512, .f32⟩
  | 46 => ⟨S4x20x512x512, .f32⟩
  | 47 => ⟨S4x20x512x512, .f32⟩
  | 48 => ⟨S_, .f32⟩
  | 49 => ⟨S4x20x512x512, .f32⟩
  | 50 => ⟨S4x20x512x512, .f32⟩
  | 51 => ⟨S4x20x512x512, .f32⟩
  | 52 => ⟨S4x20x512x512, .f32⟩
  | 53 => ⟨S_, .f32⟩
  | 54 => ⟨S4x20x512x512, .f32⟩
  | 55 => ⟨S4x20x512x512, .f32⟩
  | 56 => ⟨S4x20x512x512, .f32⟩
  | 57 => ⟨S4x20x512x512, .f32⟩
  | 58 => ⟨S_, .f32⟩
  | 59 => ⟨S4x20x512x512, .f32⟩
  | 60 => ⟨S4x20x512x512, .f32⟩
  | 61 => ⟨S4x20x512x512, .f32⟩
  | 62 => ⟨S4x20x512x512, .f32⟩
  | 63 => ⟨S_, .f32⟩
  | 64 => ⟨S4x20x512x512, .f32⟩
  | 65 => ⟨S4x20x512x512, .f32⟩
  | 66 => ⟨S4x20x512x512, .f32⟩
  | 67 => ⟨S4x20x512x512, .f32⟩
  | 68 => ⟨S_, .f32⟩
  | 69 => ⟨S4x20x512x512, .f32⟩
  | 70 => ⟨S4x20x512x512, .f32⟩
  | 71 => ⟨S4x20x512x512, .f32⟩
  | 72 => ⟨S4x20x512x512, .f32⟩
  | 73 => ⟨S_, .f32⟩
  | 74 => ⟨S4x20x512x512, .f32⟩
  | 75 => ⟨S4x20x512x512, .f32⟩
  | 76 => ⟨S4x20x512x512, .f32⟩
  | 77 => ⟨S4x20x512x512, .f32⟩
  | 78 => ⟨S_, .f32⟩
  | 79 => ⟨S4x20x512x512, .f32⟩
  | 80 => ⟨S4x20x512x512, .f32⟩
  | 81 => ⟨S4x20x512x512, .f32⟩
  | 82 => ⟨S4x20x512x512, .f32⟩
  | 83 => ⟨S_, .f32⟩
  | 84 => ⟨S4x20x512x512, .f32⟩
  | 85 => ⟨S4x20x512x512, .f32⟩
  | 86 => ⟨S4x20x512x512, .f32⟩
  | 87 => ⟨S4x20x512x512, .f32⟩
  | 88 => ⟨S_, .f32⟩
  | 89 => ⟨S4x20x512x512, .f32⟩
  | 90 => ⟨S4x20x512x512, .f32⟩
  | 91 => ⟨S4x20x512x512, .f32⟩
  | 92 => ⟨S4x20x512x512, .f32⟩
  | 93 => ⟨S_, .f32⟩
  | 94 => ⟨S4x20x512x512, .f32⟩
  | 95 => ⟨S4x20x512x512, .f32⟩
  | 96 => ⟨S4x20x512x512, .f32⟩
  | 97 => ⟨S4x20x512x512, .f32⟩
  | 98 => ⟨S_, .f32⟩
  | 99 => ⟨S4x20x512x512, .f32⟩
  | 100 => ⟨S4x20x512x512, .f32⟩
  | 101 => ⟨S4x20x512x512, .f32⟩
  | 102 => ⟨S4x20x512x512, .f32⟩
  | 103 => ⟨S_, .f32⟩
  | 104 => ⟨S4x20x512x512, .f32⟩
  | 105 => ⟨S4x20x512x512, .f32⟩
  | 106 => ⟨S4x20x512x512, .f32⟩
  | 107 => ⟨S4x20x512x512, .f32⟩
  | 108 => ⟨S_, .f32⟩
  | 109 => ⟨S4x20x512x512, .f32⟩
  | 110 => ⟨S4x20x512x512, .f32⟩
  | 111 => ⟨S4x20x512x512, .f32⟩
  | 112 => ⟨S4x20x512x512, .f32⟩
  | 113 => ⟨S_, .f32⟩
  | 114 => ⟨S4x20x512x512, .f32⟩
  | 115 => ⟨S4x20x512x512, .f32⟩
  | 116 => ⟨S4x20x512x512, .f32⟩
  | 117 => ⟨S4x20x512x512, .f32⟩
  | 118 => ⟨S_, .f32⟩
  | 119 => ⟨S4x20x512x512, .f32⟩
  | 120 => ⟨S4x20x512x512, .f32⟩
  | 121 => ⟨S4x20x512x512, .f32⟩
  | 122 => ⟨S4x20x512x512, .f32⟩
  | 123 => ⟨S_, .f32⟩
  | 124 => ⟨S4x20x512x512, .f32⟩
  | 125 => ⟨S4x20x512x512, .f32⟩
  | 126 => ⟨S4x20x512x512, .f32⟩
  | 127 => ⟨S4x20x512x512, .f32⟩
  | _ => ⟨S4x21x512x512, .f32⟩

abbrev hbmTy0_2 (i : Nat) : BufTy := match i % 128 with
  | 0 => ⟨S_, .f32⟩
  | 1 => ⟨S4x20x512x512, .f32⟩
  | 2 => ⟨S4x20x512x512, .f32⟩
  | 3 => ⟨S4x20x512x512, .f32⟩
  | 4 => ⟨S4x20x512x512, .f32⟩
  | 5 => ⟨S_, .f32⟩
  | 6 => ⟨S4x20x512x512, .f32⟩
  | 7 => ⟨S4x20x512x512, .f32⟩
  | 8 => ⟨S4x20x512x512, .f32⟩
  | 9 => ⟨S4x20x512x512, .f32⟩
  | 10 => ⟨S_, .f32⟩
  | 11 => ⟨S4x20x512x512, .f32⟩
  | 12 => ⟨S4x20x512x512, .f32⟩
  | 13 => ⟨S4x20x512x512, .f32⟩
  | 14 => ⟨S4x20x512x512, .f32⟩
  | 15 => ⟨S_, .f32⟩
  | 16 => ⟨S4x20x512x512, .f32⟩
  | 17 => ⟨S4x20x512x512, .f32⟩
  | 18 => ⟨S4x20x512x512, .f32⟩
  | 19 => ⟨S4x20x512x512, .f32⟩
  | 20 => ⟨S_, .f32⟩
  | 21 => ⟨S4x20x512x512, .f32⟩
  | 22 => ⟨S4x20x512x512, .f32⟩
  | 23 => ⟨S4x20x512x512, .f32⟩
  | 24 => ⟨S4x20x1x512x512, .f32⟩
  | 25 => ⟨S4x20x1x512x512, .f32⟩
  | 26 => ⟨S4x20x2x512x512, .f32⟩
  | 27 => ⟨S4x20, .f32⟩
  | 28 => ⟨S4x20x1x1x1, .f32⟩
  | 29 => ⟨S4x20x2x512x512, .f32⟩
  | 30 => ⟨S4x20x2x512x512, .f32⟩
  | 31 => ⟨S_, .f32⟩
  | 32 => ⟨S4x2x512x512, .f32⟩
  | 33 => ⟨S4x2x512x512, .f32⟩
  | 34 => ⟨S_, .f32⟩
  | 35 => ⟨S4x512x512, .f32⟩
  | 36 => ⟨S_, .f32⟩
  | 37 => ⟨S4x512x512, .f32⟩
  | 38 => ⟨S4x512x512, .f32⟩
  | 39 => ⟨S4x512x512, .f32⟩
  | 40 => ⟨S_, .f32⟩
  | 41 => ⟨S_, .f32⟩
  | 42 => ⟨S_, .f32⟩
  | 43 => ⟨S_, .f32⟩
  | _ => ⟨S4x21x512x512, .f32⟩

abbrev hbmTy (i : Nat) : BufTy := match i / 128 with
  | 0 => hbmTy0_0 i
  | 1 => hbmTy0_1 i
  | 2 => hbmTy0_2 i
  | _ => ⟨S4x21x512x512, .f32⟩

abbrev bufTy : (tb : Table) → Fin (tcTables nBuf tb) → BufTy
  | .hbm, ⟨i, _⟩ => hbmTy i
  | _, _ => ⟨S4x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_13 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_14 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_15 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_16 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_17 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_18 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_19 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_20 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_21 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_22 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_23 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_24 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_25 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_26 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_27 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_28 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_c_29 : Ref sig .tc := ⟨.hbm, 150, rfl⟩
abbrev main_call1_v0 : Ref sig .tc := ⟨.hbm, 151, rfl⟩
abbrev main_v116 : Ref sig .tc := ⟨.hbm, 152, rfl⟩
abbrev main_v117 : Ref sig .tc := ⟨.hbm, 153, rfl⟩
abbrev main_cst_30 : Ref sig .tc := ⟨.hbm, 154, rfl⟩
abbrev main_v118 : Ref sig .tc := ⟨.hbm, 155, rfl⟩
abbrev main_v119 : Ref sig .tc := ⟨.hbm, 156, rfl⟩
abbrev main_cst_31 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_32 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_33 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_34 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_cst_35 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_cst_36 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_cst_37 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_cst_38 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_cst_39 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_cst_40 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_cst_41 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_cst_42 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_cst_43 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_cst_44 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_cst_45 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_cst_46 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_cst_47 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_cst_48 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_cst_49 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_cst_50 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_cst_51 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_cst_52 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_cst_53 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_cst_54 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_cst_55 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_cst_56 : Ref sig .tc := ⟨.hbm, 287, rfl⟩
abbrev main_v225 : Ref sig .tc := ⟨.hbm, 288, rfl⟩
abbrev main_v226 : Ref sig .tc := ⟨.hbm, 289, rfl⟩
abbrev main_cst_57 : Ref sig .tc := ⟨.hbm, 290, rfl⟩
abbrev main_v227 : Ref sig .tc := ⟨.hbm, 291, rfl⟩
abbrev main_cst_58 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_cst_59 : Ref sig .tc := ⟨.hbm, 296, rfl⟩
abbrev main_v231 : Ref sig .tc := ⟨.hbm, 297, rfl⟩
abbrev main_cst_60 : Ref sig .tc := ⟨.hbm, 298, rfl⟩
abbrev main_v232 : Ref sig .tc := ⟨.hbm, 299, rfl⟩

abbrev nD : Nat := 1
abbrev τ : Topo := Topo.v7x

variable {F : FTy → Type} [FloatOps F]
-- ==== Proof.Structured.lean ====
/-
  The kernel's body, written as the loops it was unrolled from.

  The printed body of `KernelIdeal` is one long unrolled chain of loads, arithmetic and stores. Here the same program is
  written as loops: over the sixteen bands of a row block (each band folding over the twenty-one classes) and over the
  sixty-four bands of the convolution. `body_top` and `body_bottom` say that the printed body, at a grid point of the first
  and of the second row block, IS that program.
-/
module

public import proofs.«01_k».proof.Proof.Gen.KernelIdeal
public import Idealize.ShloMosaic.Lib.Tactic

@[expose] public section

noncomputable section

namespace Cert.KernelIdeal.Structured

open Idealize.ShloMosaic Idealize.SL.Sem Cert.KernelIdeal Cert.KernelIdeal.Gen

variable {F : FTy → Type} [FloatOps F] [Named F]

/-- A program of the kernel. -/
abbrev KProg (F : FTy → Type) (α : Type) : Type 1 := Prog (TpuEff nD τ sig (Elt F) Λ₀ .tc) α

/-- The grid point of batch entry `n` and row block `rb`. -/
def pt (n : Fin 4) (rb : Fin 2) : grid0.Coords := Fin.cases n (Fin.cases rb fun b => b.elim0)

/-! ## Softmax: one band of sixteen rows -/

theorem inb_seg (c : Fin 21) (ch : Fin 16) : ∀ a, (![0, c.val, 16 * ch.val, 0] : Fin 4 → Nat) a + S1x1x16x512.size a ≤ S1x21x256x512.size a := by
  have hc := c.isLt; have hch := ch.isLt
  intro a; fin_cases a <;> (simp [S1x1x16x512, S1x21x256x512] <;> omega)

/-- Where class `c`'s weight of the point's batch entry lies in the table. -/
def woff (i : grid0.Coords) (c : Fin 21) : Fin 2 → Nat := ![(Scalar.indexCast (BitVec.ofNat 32 (i 0).val)).toNat, c.val]

theorem inb_w (i : grid0.Coords) (c : Fin 21) : ∀ a, woff i c a + S1x1.size a ≤ S4x21.size a := by
  have hc := c.isLt
  intro a
  fin_cases a
  · exact k0_off1_inb i 0
  · simp [woff, S1x1, S4x21, Shape.size]

/-- Read band `ch` of class `c`. -/
def seg (arg3 : Memref sig .tc .vmem S1x21x256x512 .f32) (ch : Fin 16) (c : Fin 21) : KProg F (FVec F S16x512 .f32) := do
  let v : Vec F S1x1x16x512 .f32 ← Prog.lift (.load arg3 (Rect.unit (s := S1x21x256x512) ![0, c.val, 16 * ch.val, 0] S1x1x16x512.size (inb_seg c ch)).toLoadRect (View.loadsAt_vmem h_S1x1x16x512))
  pure (shapeCast S16x512 v shapeCasts_S1x1x16x512_S16x512)

/-- Read the weight of class `c`. -/
def wgt (i : grid0.Coords) (arg2 : Memref sig .tc .smem S4x21 .f32) (c : Fin 21) : KProg F (Elt F .f32) :=
  smemLoad arg2 (Rect.unit (s := S4x21) (woff i c) S1x1.size (inb_w i c)) numel1_S1x1 rfl

/-- Four running maxima, the next class going to the first and the four turned by one place. -/
def maxLoop (arg3 : Memref sig .tc .vmem S1x21x256x512 .f32) (ch : Fin 16) :
    List (Fin 21) → FVec F S16x512 .f32 → FVec F S16x512 .f32 → FVec F S16x512 .f32 → FVec F S16x512 .f32 → KProg F (FVec F S16x512 .f32)
  | [], a, b, c, d => pure (maximumf (maximumf d a) (maximumf b c))
  | k :: ks, a, b, c, d => do
    let x ← seg arg3 ch k
    maxLoop arg3 ch ks b c d (maximumf a x)

/-- The weight of a class at each pixel, before it is normalised: `2 ^ ((x - m) · scale)`. -/
def expo (m x : FVec F S16x512 .f32) : FVec F S16x512 .f32 :=
  exp2 (mulf (subf x m) (broadcast S16x512 (Named.named κ "scale" 0x44B4563E#32 : F .f32)))

/-- Two running sums of the exponentials and two of the weighted ones, turned by one place at each class. -/
def sumLoop (i : grid0.Coords) (arg2 : Memref sig .tc .smem S4x21 .f32) (arg3 : Memref sig .tc .vmem S1x21x256x512 .f32) (ch : Fin 16)
    (m : FVec F S16x512 .f32) :
    List (Fin 21) → FVec F S16x512 .f32 → FVec F S16x512 .f32 → FVec F S16x512 .f32 → FVec F S16x512 .f32 → KProg F (FVec F S16x512 .f32)
  | [], dA, dB, nA, nB => pure (divf (addf nB nA) (addf dB dA))
  | k :: ks, dA, dB, nA, nB => do
    let x ← seg arg3 ch k
    let w ← wgt i arg2 k
    sumLoop i arg2 arg3 ch m ks dB (addf dA (expo m x)) nB (addf nA (mulf (expo m x) (broadcast S16x512 w)))

/-- Band `ch` of the label-weighted softmax. -/
def band (i : grid0.Coords) (arg2 : Memref sig .tc .smem S4x21 .f32) (arg3 : Memref sig .tc .vmem S1x21x256x512 .f32) (ch : Fin 16) :
    KProg F (FVec F S16x512 .f32) := do
  let a ← seg arg3 ch 0
  let b ← seg arg3 ch 1
  let c ← seg arg3 ch 2
  let d ← seg arg3 ch 3
  let m ← maxLoop arg3 ch [4, 5, 6, 7, 8, 9, 10, 11, 12, 13, 14, 15, 16, 17, 18, 19, 20] a b c d
  let x0 ← seg arg3 ch 0
  let x1 ← seg arg3 ch 1
  let w1 ← wgt i arg2 1
  let x2 ← seg arg3 ch 2
  let w2 ← wgt i arg2 2
  sumLoop i arg2 arg3 ch m [3, 4, 5, 6, 7, 8, 9, 10, 11, 12, 13, 14, 15, 16, 17, 18, 19, 20] (expo m x1) (addf (expo m x0) (expo m x2))
    (mulf (expo m x1) (broadcast S16x512 w1)) (mulf (expo m x2) (broadcast S16x512 w2))

theorem inb_dst (rb : Fin 2) (ch : Fin 16) : ∀ a, (![2 + 256 * rb.val + 16 * ch.val, 0] : Fin 2 → Nat) a + S16x512.size a ≤ S520x512.size a := by
  have hc := rb.isLt; have hch := ch.isLt
  intro a; fin_cases a <;> simp [S16x512, S520x512, Shape.size] <;> omega

/-- Compute the bands in turn, each into its rows of the scratch. -/
def bands (i : grid0.Coords) (rb : Fin 2) (arg2 : Memref sig .tc .smem S4x21 .f32) (arg3 : Memref sig .tc .vmem S1x21x256x512 .f32)
    (arg5 : Memref sig .tc .vmem S520x512 .f32) : List (Fin 16) → KProg F PUnit
  | [] => pure ⟨⟩
  | ch :: chs => do
    let f ← band i arg2 arg3 ch
    let _v : Vec F S16x512 .f32 ← Prog.lift (.load arg5 (Rect.unit (s := S520x512) ![2 + 256 * rb.val + 16 * ch.val, 0] S16x512.size (inb_dst rb ch)).toLoadRect (View.loadsAt_vmem h_S16x512))
    Prog.lift (.store arg5 (Rect.unit (s := S520x512) ![2 + 256 * rb.val + 16 * ch.val, 0] S16x512.size (inb_dst rb ch)) (shapeCast S16x512 f shapeCasts_S16x512_S16x512) Finset.univ (View.stores_vmem_bits_univ h_S16x512 rfl) (.inl rfl))
    bands i rb arg2 arg3 arg5 chs

/-- Zero the rows above and below the image. -/
def halo (arg5 : Memref sig .tc .vmem S520x512 .f32) : KProg F PUnit := do
  let _v : Vec F S2x512 .f32 ← Prog.lift (.load arg5 (Rect.unit (s := S520x512) ![0, 0] S2x512.size inb_S520x512_S2x512_0_0).toLoadRect (View.loadsAt_vmem h_S2x512))
  Prog.lift (.store arg5 (Rect.unit (s := S520x512) ![0, 0] S2x512.size inb_S520x512_S2x512_0_0) (shapeCast S2x512 (broadcast S2x512 (Scalar.ofBits .f32 0x00000000#32 : F .f32)) shapeCasts_S2x512_S2x512) Finset.univ (View.stores_vmem_bits_univ h_S2x512 rfl) (.inl rfl))
  let _w : Vec F S6x512 .f32 ← Prog.lift (.load arg5 (Rect.unit (s := S520x512) ![514, 0] S6x512.size inb_S520x512_S6x512_514_0).toLoadRect (View.loadsAt_vmem h_S6x512))
  Prog.lift (.store arg5 (Rect.unit (s := S520x512) ![514, 0] S6x512.size inb_S520x512_S6x512_514_0) (shapeCast S6x512 (broadcast S6x512 (Scalar.ofBits .f32 0x00000000#32 : F .f32)) shapeCasts_S6x512_S6x512) Finset.univ (View.stores_vmem_bits_univ h_S6x512 rfl) (.inl rfl))

/-- All sixteen bands, first to last. -/
def allBands : List (Fin 16) := [0, 1, 2, 3, 4, 5, 6, 7, 8, 9, 10, 11, 12, 13, 14, 15]

set_option maxRecDepth 100000 in
set_option maxHeartbeats 0 in
/-- The printed body at a point of the first row block. -/
theorem body_top (n : Fin 4) (arg2 : Memref sig .tc .smem S4x21 .f32) (harg2 : arg2.IsWhole) (arg3 : Memref sig .tc .vmem S1x21x256x512 .f32) (harg3 : arg3.IsWhole)
    (arg4 : Memref sig .tc .vmem S1x1 .f32) (harg4 : arg4.IsWhole) (arg5 : Memref sig .tc .vmem S520x512 .f32) (harg5 : arg5.IsWhole) :
    cc0__body (F := F) (pt n 0) arg2 harg2 arg3 harg3 arg4 harg4 arg5 harg5
    = (do halo arg5; bands (pt n 0) 0 arg2 arg3 arg5 allBands) := by
  sl_kernel_rfl

/-! ## The convolution: one band of eight rows -/

/-- A band of eight rows moved two places to the right (`shift8R2 v` at column `x` is `v` at column `x - 2`), zeros coming in; and its kin, one place
    to the right, one and two to the left, and the four of a band of twelve rows. -/
def shift8R2 (v : FVec F S8x512 .f32) : FVec F S8x512 .f32 :=
  concatenate S8x512 1 [⟨S8x2, broadcast S8x2 (Scalar.ofBits .f32 0x00000000#32 : F .f32)⟩, ⟨S8x510, extractStridedSlice S8x510 ![0, 0] v slices_S8x512_o0_0_S8x510⟩] concatenates_S8x2_S8x510_S8x512_d1
def shift8R1 (v : FVec F S8x512 .f32) : FVec F S8x512 .f32 :=
  concatenate S8x512 1 [⟨S8x1, broadcast S8x1 (Scalar.ofBits .f32 0x00000000#32 : F .f32)⟩, ⟨S8x511, extractStridedSlice S8x511 ![0, 0] v slices_S8x512_o0_0_S8x511⟩] concatenates_S8x1_S8x511_S8x512_d1
def shift8L1 (v : FVec F S8x512 .f32) : FVec F S8x512 .f32 :=
  concatenate S8x512 1 [⟨S8x511, extractStridedSlice S8x511 ![0, 1] v slices_S8x512_o0_1_S8x511⟩, ⟨S8x1, broadcast S8x1 (Scalar.ofBits .f32 0x00000000#32 : F .f32)⟩] concatenates_S8x511_S8x1_S8x512_d1
def shift8L2 (v : FVec F S8x512 .f32) : FVec F S8x512 .f32 :=
  concatenate S8x512 1 [⟨S8x510, extractStridedSlice S8x510 ![0, 2] v slices_S8x512_o0_2_S8x510⟩, ⟨S8x2, broadcast S8x2 (Scalar.ofBits .f32 0x00000000#32 : F .f32)⟩] concatenates_S8x510_S8x2_S8x512_d1
def shift12R2 (v : FVec F S12x512 .f32) : FVec F S12x512 .f32 :=
  concatenate S12x512 1 [⟨S12x2, broadcast S12x2 (Scalar.ofBits .f32 0x00000000#32 : F .f32)⟩, ⟨S12x510, extractStridedSlice S12x510 ![0, 0] v slices_S12x512_o0_0_S12x510⟩] concatenates_S12x2_S12x510_S12x512_d1
def shift12R1 (v : FVec F S12x512 .f32) : FVec F S12x512 .f32 :=
  concatenate S12x512 1 [⟨S12x1, broadcast S12x1 (Scalar.ofBits .f32 0x00000000#32 : F .f32)⟩, ⟨S12x511, extractStridedSlice S12x511 ![0, 0] v slices_S12x512_o0_0_S12x511⟩] concatenates_S12x1_S12x511_S12x512_d1
def shift12L1 (v : FVec F S12x512 .f32) : FVec F S12x512 .f32 :=
  concatenate S12x512 1 [⟨S12x511, extractStridedSlice S12x511 ![0, 1] v slices_S12x512_o0_1_S12x511⟩, ⟨S12x1, broadcast S12x1 (Scalar.ofBits .f32 0x00000000#32 : F .f32)⟩] concatenates_S12x511_S12x1_S12x512_d1
def shift12L2 (v : FVec F S12x512 .f32) : FVec F S12x512 .f32 :=
  concatenate S12x512 1 [⟨S12x510, extractStridedSlice S12x510 ![0, 2] v slices_S12x512_o0_2_S12x510⟩, ⟨S12x2, broadcast S12x2 (Scalar.ofBits .f32 0x00000000#32 : F .f32)⟩] concatenates_S12x510_S12x2_S12x512_d1

/-- The horizontal gradient of a band, of the five rows' bands around it. -/
def gradX (r0 r1 r2 r3 r4 : FVec F S8x512 .f32) : FVec F S8x512 .f32 :=
  let s3 := addf (addf r1 r2) r3
  let s5 := addf (addf s3 r0) r4
  let u := addf s3 r2
  let a := addf (mulf (broadcast S8x512 (Scalar.ofBits .f32 0x40000000#32 : F .f32)) s5) u
  let b := addf s5 u
  let mid := subf (mulf (broadcast S8x512 (Scalar.ofBits .f32 0x358637BD#32 : F .f32)) s5)
    (mulf (broadcast S8x512 (Scalar.ofBits .f32 0x358637BD#32 : F .f32)) r2)
  subf (subf (addf (addf (shift8R2 a) (shift8R1 b)) mid) (shift8L1 b)) (shift8L2 a)

/-- The vertical gradient of a band, of the twelve rows around it. -/
def gradY (q : FVec F S12x512 .f32) : FVec F S8x512 .f32 :=
  let t3 := addf (addf (shift12R1 q) q) (shift12L1 q)
  let t5 := addf (addf t3 (shift12R2 q)) (shift12L2 q)
  let u := addf t3 q
  let h0 := addf (mulf (broadcast S12x512 (Scalar.ofBits .f32 0x40000000#32 : F .f32)) t5) u
  let h1 := addf t5 u
  addf (subf (addf (subf (extractStridedSlice S8x512 ![0, 0] h0 slices_S12x512_o0_0_S8x512) (extractStridedSlice S8x512 ![4, 0] h0 slices_S12x512_o4_0_S8x512))
      (extractStridedSlice S8x512 ![1, 0] h1 slices_S12x512_o1_0_S8x512)) (extractStridedSlice S8x512 ![3, 0] h1 slices_S12x512_o3_0_S8x512))
    (mulf (broadcast S8x512 (Scalar.ofBits .f32 0x358637BD#32 : F .f32)) (extractStridedSlice S8x512 ![2, 0] t5 slices_S12x512_o2_0_S8x512))

/-- The magnitude of a gradient. -/
def magn (gx gy : FVec F S8x512 .f32) : FVec F S8x512 .f32 :=
  sqrt (addf (addf (mulf gx gx) (mulf gy gy)) (broadcast S8x512 (Scalar.ofBits .f32 0x322BCC77#32 : F .f32)))

theorem inb_row (k : Fin 64) (d : Fin 5) : ∀ a, (![8 * k.val + d.val, 0] : Fin 2 → Nat) a + S8x512.size a ≤ S520x512.size a := by
  have hk := k.isLt; have hd := d.isLt
  intro a; fin_cases a <;> simp [S8x512, S520x512] <;> omega

theorem inb_rows (k : Fin 64) : ∀ a, (![8 * k.val, 0] : Fin 2 → Nat) a + S12x512.size a ≤ S520x512.size a := by
  have hk := k.isLt
  intro a; fin_cases a <;> simp [S12x512, S520x512] <;> omega

/-- Read the eight rows of the scratch that start `d` below band `k`'s first. -/
def row (arg5 : Memref sig .tc .vmem S520x512 .f32) (k : Fin 64) (d : Fin 5) : KProg F (FVec F S8x512 .f32) := do
  let v : Vec F S8x512 .f32 ← Prog.lift (.load arg5 (Rect.unit (s := S520x512) ![8 * k.val + d.val, 0] S8x512.size (inb_row k d)).toLoadRect (View.loadsAt_vmem h_S8x512))
  pure v

/-- Read the twelve rows of the scratch that start at band `k`'s first. -/
def rows (arg5 : Memref sig .tc .vmem S520x512 .f32) (k : Fin 64) : KProg F (FVec F S12x512 .f32) := do
  let v : Vec F S12x512 .f32 ← Prog.lift (.load arg5 (Rect.unit (s := S520x512) ![8 * k.val, 0] S12x512.size (inb_rows k)).toLoadRect (View.loadsAt_vmem h_S12x512))
  pure v

/-- The gradient's magnitude on band `k`. -/
def edge (arg5 : Memref sig .tc .vmem S520x512 .f32) (k : Fin 64) : KProg F (FVec F S8x512 .f32) := do
  let r0 ← row arg5 k 0
  let r1 ← row arg5 k 1
  let r2 ← row arg5 k 2
  let r3 ← row arg5 k 3
  let r4 ← row arg5 k 4
  let q ← rows arg5 k
  pure (magn (gradX r0 r1 r2 r3 r4) (gradY q))

/-- The bands' magnitudes added up, on top of `acc`. -/
def edges (arg5 : Memref sig .tc .vmem S520x512 .f32) : List (Fin 64) → FVec F S8x512 .f32 → KProg F (FVec F S8x512 .f32)
  | [], acc => pure acc
  | k :: ks, acc => do
    let e ← edge arg5 k
    edges arg5 ks (addf acc e)

/-- The bands of the convolution but the first. -/
def laterBands : List (Fin 64) :=
  [1, 2, 3, 4, 5, 6, 7, 8, 9, 10, 11, 12, 13, 14, 15, 16, 17, 18, 19, 20, 21, 22, 23, 24, 25, 26, 27, 28, 29, 30, 31, 32, 33, 34, 35, 36, 37, 38, 39, 40,
    41, 42, 43, 44, 45, 46, 47, 48, 49, 50, 51, 52, 53, 54, 55, 56, 57, 58, 59, 60, 61, 62, 63]

/-- The sum of a band's entries. -/
def total (v : FVec F S8x512 .f32) : F .f32 :=
  extractAt ![0, 0, 0] (shapeCast S1x1x1 (multiReduction .add [1, 2] S1 (shapeCast S1x8x512 v shapeCasts_S8x512_S1x8x512) 0x00000000#32 reduces_S1x8x512_S1 (.inl rfl) rfl) shapeCasts_S1_S1x1x1) inpos_S1x1x1_p0_0_0

/-- Read the one word of the result. -/
def outLd (arg4 : Memref sig .tc .vmem S1x1 .f32) : KProg F (FVec F S1x1 .f32) := do
  let v : Vec F S1x1 .f32 ← Prog.lift (.load arg4 (Rect.unit (s := S1x1) ![0, 0] S1x1.size inb_S1x1_S1x1_0_0).toLoadRect (View.loadsAt_vmem h_S1x1))
  pure v

/-- Write the one word of the result. -/
def outSt (arg4 : Memref sig .tc .vmem S1x1 .f32) (v : FVec F S1x1 .f32) : KProg F PUnit :=
  Prog.lift (.store arg4 (Rect.unit (s := S1x1) ![0, 0] S1x1.size inb_S1x1_S1x1_0_0) v Finset.univ (View.stores_vmem_bits_univ h_S1x1 rfl) (.inl rfl))

/-- The sum of all magnitudes. -/
def allEdges (arg5 : Memref sig .tc .vmem S520x512 .f32) : KProg F (FVec F S8x512 .f32) := do
  let e ← edge arg5 0
  edges arg5 laterBands e

/-- Leave a sum of magnitudes in the result: at the first batch entry by itself, later on top of what is there. -/
def finish (n : Fin 4) (arg4 : Memref sig .tc .vmem S1x1 .f32) (e : FVec F S8x512 .f32) : KProg F PUnit :=
  match n with
  | 0 => do
    let _v ← outLd arg4
    outSt arg4 (broadcast S1x1 (total e))
  | _ => do
    let v ← outLd arg4
    let _v ← outLd arg4
    outSt arg4 (addf (shapeCast S1x1 v shapeCasts_S1x1_S1x1) (broadcast S1x1 (total e)))

/-- A point of the second row block: the bands, the convolution, and the sum left in the result. -/
def bottom (n : Fin 4) (arg2 : Memref sig .tc .smem S4x21 .f32) (arg3 : Memref sig .tc .vmem S1x21x256x512 .f32)
    (arg4 : Memref sig .tc .vmem S1x1 .f32) (arg5 : Memref sig .tc .vmem S520x512 .f32) : KProg F PUnit := do
  bands (pt n 1) 1 arg2 arg3 arg5 allBands
  let e ← allEdges arg5
  finish n arg4 e

set_option maxRecDepth 100000 in
set_option maxHeartbeats 0 in
/-- The printed body at a point of the second row block. -/
theorem body_bottom (n : Fin 4) (arg2 : Memref sig .tc .smem S4x21 .f32) (harg2 : arg2.IsWhole) (arg3 : Memref sig .tc .vmem S1x21x256x512 .f32) (harg3 : arg3.IsWhole)
    (arg4 : Memref sig .tc .vmem S1x1 .f32) (harg4 : arg4.IsWhole) (arg5 : Memref sig .tc .vmem S520x512 .f32) (harg5 : arg5.IsWhole) :
    cc0__body (F := F) (pt n 1) arg2 harg2 arg3 harg3 arg4 harg4 arg5 harg5 = bottom n arg2 arg3 arg4 arg5 := by
  match n with
  | 0 => sl_kernel_rfl
  | 1 => sl_kernel_rfl
  | 2 => sl_kernel_rfl
  | 3 => sl_kernel_rfl

end Cert.KernelIdeal.Structured
end
-- ==== Proof.Steps.lean ====
/-
  What one load and one store of the kernel do, on buffers held by the values they contain.
-/
module

public import proofs.«01_k».proof.Proof.Structured
public import proofs.«01_k».proof.Proof.Gen.KernelIdeal.Launch
public import Idealize.ShloMosaic.Lib.VecWindow
public import Idealize.ShloMosaic.Lib.Ring

@[expose] public section

noncomputable section

namespace Cert.KernelIdeal.Structured

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- What the kernel's program guarantees at core `c`. -/
abbrev runs (c : Dev nD) (E : Set ℕ) {α : Type} (p : KProg F α) (K : α → sProp 𝕄) : sProp 𝕄 :=
  wp frame (wpE (defs₀ (F := F)) Variants.none (c : Thread nD τ) none) E p K

/-- A load of a window of a buffer reads that window of its contents. -/
theorem runs_load (c : Dev nD) (E : Set ℕ) {sp : CoreSpace} {s : Shape} (m : Memref sig .tc sp s .f32) (x : FVec F s .f32) (off size : Fin s.rank → ℕ)
    (inb : ∀ a, off a + size a ≤ s.size a) (h : m.view.LoadsAt (Rect.unit off size inb).toLoadRect)
    (K : ((Rect.unit off size inb).shape.Idx → Elt F .f32) → sProp 𝕄) :
    iprop(owns (c : Thread nD τ) m fullShare x ∗ (owns (c : Thread nD τ) m fullShare x -∗ K (VecWindow.window x off size inb)))
      ⊢ runs c E (Prog.lift (.load m (Rect.unit off size inb).toLoadRect h)) K := by
  unfold owns runs
  iintro ⟨⟨%f, %hf, H⟩, Hk⟩
  sl_exec
  sl_step
  subst hf
  rw [View.readAt_unit m.view f inb rfl inb]
  iapply Hk
  iexists f
  isplitr
  · ipureintro; rfl
  iexact H

/-- An unmasked store over a window of a buffer puts the payload there. -/
theorem runs_store (c : Dev nD) (E : Set ℕ) {s : Shape} (m : Memref sig .tc .vmem s .f32) (x : FVec F s .f32) (off size : Fin s.rank → ℕ)
    (inb : ∀ a, off a + size a ≤ s.size a) (w : (Rect.unit off size inb).shape.Idx → Elt F .f32)
    (h : (m.access (Rect.unit off size inb)).Stores Finset.univ) (hm : Finset.univ = Finset.univ ∨ ∀ a, (Rect.unit off size inb).stride a = 1)
    (K : PUnit → sProp 𝕄) :
    iprop(owns (c : Thread nD τ) m fullShare x ∗ (owns (c : Thread nD τ) m fullShare (VecWindow.put x off size w) -∗ K ⟨⟩))
      ⊢ runs c E (Prog.lift (.store m (Rect.unit off size inb) w Finset.univ h hm)) K := by
  unfold owns runs
  iintro ⟨⟨%f, %hf, H⟩, Hk⟩
  sl_exec
  sl_step
  subst hf
  iapply Hk
  iexists _
  isplitr
  swap
  · iexact H
  ipureintro
  exact View.read_writes_cons_put m.view f inb w [] rfl

/-- A load of one word of a table kept in SMEM reads that word. -/
theorem runs_word (c : Dev nD) (E : Set ℕ) {s : Shape} (m : Memref sig .tc .smem s .f32) (x : FVec F s .f32) (off size : Fin s.rank → ℕ)
    (inb : ∀ a, off a + size a ≤ s.size a) (h1 : (Rect.unit off size inb).shape.numel = 1) (hp : (EltTy.f32).packing = 1)
    (K : Elt F .f32 → sProp 𝕄) :
    iprop(owns (c : Thread nD τ) m fullShare x ∗ (owns (c : Thread nD τ) m fullShare x
        -∗ K (VecWindow.window x off size inb (Shape.Idx.first (h1.symm ▸ Nat.one_pos)))))
      ⊢ runs c E (smemLoad m (Rect.unit off size inb) h1 hp) K := by
  unfold owns runs smemLoad smemLoadElt
  iintro ⟨⟨%f, %hf, H⟩, Hk⟩
  sl_exec
  sl_step
  subst hf
  rw [View.readAt_unit m.view f inb rfl inb]
  iapply Hk
  iexists f
  isplitr
  · ipureintro; rfl
  iexact H

end Cert.KernelIdeal.Structured
end
-- ==== Proof.Body.lean ====
/-
  What each loop of the kernel's body computes: a plain function of the arrays it reads, and the statement that running the
  loop yields it.
-/
module

public import proofs.«01_k».proof.Proof.Steps

@[expose] public section

noncomputable section

namespace Cert.KernelIdeal.Structured

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-! ## The values -/

/-- Band `ch` of class `k` of a block of the image. -/
def segV (x : FVec F S1x21x256x512 .f32) (ch : Fin 16) (k : Fin 21) : FVec F S16x512 .f32 :=
  shapeCast S16x512 (VecWindow.window x ![0, k.val, 16 * ch.val, 0] S1x1x16x512.size (inb_seg k ch) : Vec F S1x1x16x512 .f32) shapeCasts_S1x1x16x512_S16x512

/-- The weight of class `k`. -/
def wgtV (i : grid0.Coords) (w : FVec F S4x21 .f32) (k : Fin 21) : Elt F .f32 :=
  VecWindow.window w (woff i k) S1x1.size (inb_w i k) (Shape.Idx.first ((numel1_S1x1).symm ▸ Nat.one_pos))

/-- The maximum that `maxLoop` computes, of bands `g`. -/
def maxV (g : Fin 21 → FVec F S16x512 .f32) :
    List (Fin 21) → FVec F S16x512 .f32 → FVec F S16x512 .f32 → FVec F S16x512 .f32 → FVec F S16x512 .f32 → FVec F S16x512 .f32
  | [], a, b, c, d => maximumf (maximumf d a) (maximumf b c)
  | k :: ks, a, b, c, d => maxV g ks b c d (maximumf a (g k))

/-- The quotient that `sumLoop` computes, of bands `g` and weights `w`. -/
def sumV (g : Fin 21 → FVec F S16x512 .f32) (w : Fin 21 → Elt F .f32) (m : FVec F S16x512 .f32) :
    List (Fin 21) → FVec F S16x512 .f32 → FVec F S16x512 .f32 → FVec F S16x512 .f32 → FVec F S16x512 .f32 → FVec F S16x512 .f32
  | [], dA, dB, nA, nB => divf (addf nB nA) (addf dB dA)
  | k :: ks, dA, dB, nA, nB =>
    sumV g w m ks dB (addf dA (expo m (g k))) nB (addf nA (mulf (expo m (g k)) (broadcast S16x512 (w k))))

/-- The maximum over all classes. -/
def topV (g : Fin 21 → FVec F S16x512 .f32) : FVec F S16x512 .f32 :=
  maxV g [4, 5, 6, 7, 8, 9, 10, 11, 12, 13, 14, 15, 16, 17, 18, 19, 20] (g 0) (g 1) (g 2) (g 3)

/-- The label-weighted softmax of one band. -/
def softV (g : Fin 21 → FVec F S16x512 .f32) (w : Fin 21 → Elt F .f32) : FVec F S16x512 .f32 :=
  sumV g w (topV g) [3, 4, 5, 6, 7, 8, 9, 10, 11, 12, 13, 14, 15, 16, 17, 18, 19, 20] (expo (topV g) (g 1)) (addf (expo (topV g) (g 0)) (expo (topV g) (g 2)))
    (mulf (expo (topV g) (g 1)) (broadcast S16x512 (w 1))) (mulf (expo (topV g) (g 2)) (broadcast S16x512 (w 2)))

/-- Band `ch` of the label-weighted softmax of a block. -/
def bandV (i : grid0.Coords) (w : FVec F S4x21 .f32) (x : FVec F S1x21x256x512 .f32) (ch : Fin 16) : FVec F S16x512 .f32 :=
  softV (segV x ch) (wgtV i w)

/-- The scratch after bands `f` are put in turn into row block `rb`. -/
def bandsV (rb : Fin 2) (f : Fin 16 → FVec F S16x512 .f32) : List (Fin 16) → FVec F S520x512 .f32 → FVec F S520x512 .f32
  | [], y => y
  | ch :: chs, y => bandsV rb f chs (VecWindow.put y ![2 + 256 * rb.val + 16 * ch.val, 0] S16x512.size (shapeCast S16x512 (f ch) shapeCasts_S16x512_S16x512))

/-- The scratch after its outer rows are zeroed. -/
def haloV (y : FVec F S520x512 .f32) : FVec F S520x512 .f32 :=
  VecWindow.put (VecWindow.put y ![0, 0] S2x512.size (shapeCast S2x512 (broadcast S2x512 (Scalar.ofBits .f32 0x00000000#32 : F .f32)) shapeCasts_S2x512_S2x512))
    ![514, 0] S6x512.size (shapeCast S6x512 (broadcast S6x512 (Scalar.ofBits .f32 0x00000000#32 : F .f32)) shapeCasts_S6x512_S6x512)

/-- Eight rows of the scratch. -/
def rowV (y : FVec F S520x512 .f32) (k : Fin 64) (d : Fin 5) : FVec F S8x512 .f32 :=
  VecWindow.window y ![8 * k.val + d.val, 0] S8x512.size (inb_row k d)

/-- Twelve rows of the scratch. -/
def rowsV (y : FVec F S520x512 .f32) (k : Fin 64) : FVec F S12x512 .f32 :=
  VecWindow.window y ![8 * k.val, 0] S12x512.size (inb_rows k)

/-- The gradient's magnitude on band `k`. -/
def edgeV (y : FVec F S520x512 .f32) (k : Fin 64) : FVec F S8x512 .f32 :=
  magn (gradX (rowV y k 0) (rowV y k 1) (rowV y k 2) (rowV y k 3) (rowV y k 4)) (gradY (rowsV y k))

/-- The magnitudes of a list of bands added up, on top of `acc`. -/
def edgesV (y : FVec F S520x512 .f32) : List (Fin 64) → FVec F S8x512 .f32 → FVec F S8x512 .f32
  | [], acc => acc
  | k :: ks, acc => edgesV y ks (addf acc (edgeV y k))

/-- The magnitudes of all bands added up. -/
def allEdgesV (y : FVec F S520x512 .f32) : FVec F S8x512 .f32 := edgesV y laterBands (edgeV y 0)

/-- The scratch as a point of the first row block leaves it, and as one of the second does. -/
def topS (n : Fin 4) (w : FVec F S4x21 .f32) (x : FVec F S1x21x256x512 .f32) (y : FVec F S520x512 .f32) : FVec F S520x512 .f32 :=
  bandsV 0 (bandV (pt n 0) w x) allBands (haloV y)
def bottomS (n : Fin 4) (w : FVec F S4x21 .f32) (x : FVec F S1x21x256x512 .f32) (y : FVec F S520x512 .f32) : FVec F S520x512 .f32 :=
  bandsV 1 (bandV (pt n 1) w x) allBands y

/-- The result as a point of the second row block leaves it, of the scratch at its convolution and of the result before. -/
def outV (n : Fin 4) (y : FVec F S520x512 .f32) (o : FVec F S1x1 .f32) : FVec F S1x1 .f32 :=
  match n with
  | 0 => broadcast S1x1 (total (allEdgesV y))
  | _ => addf (shapeCast S1x1 o shapeCasts_S1x1_S1x1) (broadcast S1x1 (total (allEdgesV y)))

/-! ## The loops compute them -/

variable (c : Dev nD) (E : Set ℕ)

theorem runs_bind {α β : Type} (p : KProg F α) (k : α → KProg F β) (K : β → sProp 𝕄) :
    runs c E p (fun a => runs c E (k a) K) ⊢ runs c E (p >>= k) K := by
  unfold runs; rw [wp_bind]

theorem runs_pure {α : Type} (a : α) (K : α → sProp 𝕄) : K a ⊢ runs c E (pure a) K := by
  unfold runs
  iintro H
  sl_step
  iexact H

section
variable (arg2 : Memref sig .tc .smem S4x21 .f32) (arg3 : Memref sig .tc .vmem S1x21x256x512 .f32) (arg4 : Memref sig .tc .vmem S1x1 .f32)
  (arg5 : Memref sig .tc .vmem S520x512 .f32)
  (w : FVec F S4x21 .f32) (x : FVec F S1x21x256x512 .f32) (o : FVec F S1x1 .f32) (y : FVec F S520x512 .f32)

/-- What a program that reads one array yields: it gives the array back and returns `v`. -/
abbrev Reads {σ : CoreSpace} {s : Shape} {α : Type} (m : Memref sig .tc σ s .f32) (z : FVec F s .f32) (p : KProg F α) (v : α) : Prop :=
  ∀ K : α → sProp 𝕄, iprop(owns (c : Thread nD τ) m fullShare z ∗ (owns (c : Thread nD τ) m fullShare z -∗ K v)) ⊢ runs c E p K

/-- Of two programs that read the same array, one after the other. -/
theorem Reads.bind {σ : CoreSpace} {s : Shape} {α β : Type} {m : Memref sig .tc σ s .f32} {z : FVec F s .f32} {p : KProg F α} {v : α}
    {k : α → KProg F β} {u : β} (hp : Reads c E m z p v) (hk : Reads c E m z (k v) u) : Reads c E m z (p >>= k) u := fun K => by
  refine .trans ?_ (runs_bind c E p k K)
  iintro ⟨H, Hk⟩
  iapply (hp _)
  isplitl [H]
  · iexact H
  iintro H
  iapply (hk K)
  isplitl [H]
  · iexact H
  iexact Hk

theorem Reads.pure {σ : CoreSpace} {s : Shape} {α : Type} {m : Memref sig .tc σ s .f32} {z : FVec F s .f32} (v : α) :
    Reads (F := F) c E m z (Pure.pure v) v := fun K => by
  iintro ⟨H, Hk⟩
  iapply (runs_pure c E)
  iapply Hk
  iexact H

theorem runs_seg (ch : Fin 16) (k : Fin 21) : Reads c E arg3 x (seg arg3 ch k) (segV x ch k) :=
  Reads.bind c E (fun K => runs_load c E arg3 x _ _ (inb_seg k ch) _ K) (Reads.pure c E _)

theorem runs_wgt (i : grid0.Coords) (k : Fin 21) : Reads c E arg2 w (wgt i arg2 k) (wgtV i w k) :=
  fun K => runs_word c E arg2 w _ _ (inb_w i k) _ _ K

theorem runs_maxLoop (ch : Fin 16) (ks : List (Fin 21)) : ∀ a b c' d : FVec F S16x512 .f32,
    Reads c E arg3 x (maxLoop arg3 ch ks a b c' d) (maxV (segV x ch) ks a b c' d) := by
  induction ks with
  | nil => exact fun _ _ _ _ => Reads.pure c E _
  | cons k ks ih => exact fun _ _ _ _ => Reads.bind c E (runs_seg c E arg3 x ch k) (ih _ _ _ _)

/-- What a program that reads two arrays yields. -/
abbrev Reads2 {α : Type} (p : KProg F α) (v : α) : Prop :=
  ∀ K : α → sProp 𝕄, iprop((owns (c : Thread nD τ) arg2 fullShare w ∗ owns (c : Thread nD τ) arg3 fullShare x)
      ∗ ((owns (c : Thread nD τ) arg2 fullShare w ∗ owns (c : Thread nD τ) arg3 fullShare x) -∗ K v)) ⊢ runs c E p K

variable {arg2 arg3 w x} in
theorem Reads2.bind {α β : Type} {p : KProg F α} {v : α} {k : α → KProg F β} {u : β} (hp : Reads2 c E arg2 arg3 w x p v)
    (hk : Reads2 c E arg2 arg3 w x (k v) u) : Reads2 c E arg2 arg3 w x (p >>= k) u := fun K => by
  refine .trans ?_ (runs_bind c E p k K)
  iintro ⟨H, Hk⟩
  iapply (hp _)
  isplitl [H]
  · iexact H
  iintro H
  iapply (hk K)
  isplitl [H]
  · iexact H
  iexact Hk

variable {arg2 arg3 w x} in
theorem Reads2.of_fst {α : Type} {p : KProg F α} {v : α} (h : Reads c E arg2 w p v) : Reads2 c E arg2 arg3 w x p v := fun K => by
  iintro ⟨⟨H, H'⟩, Hk⟩
  iapply (h K)
  isplitl [H]
  · iexact H
  iintro H
  iapply Hk
  isplitl [H]
  · iexact H
  iexact H'

variable {arg2 arg3 w x} in
theorem Reads2.of_snd {α : Type} {p : KProg F α} {v : α} (h : Reads c E arg3 x p v) : Reads2 c E arg2 arg3 w x p v := fun K => by
  iintro ⟨⟨H', H⟩, Hk⟩
  iapply (h K)
  isplitl [H]
  · iexact H
  iintro H
  iapply Hk
  isplitl [H']
  · iexact H'
  iexact H

theorem runs_sumLoop (i : grid0.Coords) (ch : Fin 16) (m : FVec F S16x512 .f32) (ks : List (Fin 21)) : ∀ dA dB nA nB : FVec F S16x512 .f32,
    Reads2 c E arg2 arg3 w x (sumLoop i arg2 arg3 ch m ks dA dB nA nB) (sumV (segV x ch) (wgtV i w) m ks dA dB nA nB) := by
  induction ks with
  | nil => exact fun _ _ _ _ => Reads2.of_snd c E (Reads.pure c E _)
  | cons k ks ih =>
    exact fun _ _ _ _ => Reads2.bind c E (Reads2.of_snd c E (runs_seg c E arg3 x ch k)) (Reads2.bind c E (Reads2.of_fst c E (runs_wgt c E arg2 w i k)) (ih _ _ _ _))

theorem runs_band (i : grid0.Coords) (ch : Fin 16) : Reads2 c E arg2 arg3 w x (band i arg2 arg3 ch) (bandV i w x ch) := by
  have hs := fun k => Reads2.of_snd (arg2 := arg2) (w := w) c E (runs_seg c E arg3 x ch k)
  have hw := fun k => Reads2.of_fst (arg3 := arg3) (x := x) c E (runs_wgt c E arg2 w i k)
  exact .bind c E (hs 0) (.bind c E (hs 1) (.bind c E (hs 2) (.bind c E (hs 3) (.bind c E (Reads2.of_snd c E (runs_maxLoop c E arg3 x ch _ _ _ _ _))
    (.bind c E (hs 0) (.bind c E (hs 1) (.bind c E (hw 1) (.bind c E (hs 2) (.bind c E (hw 2) (runs_sumLoop c E arg2 arg3 w x i ch _ _ _ _ _ _))))))))))

/-! ## The bands into the scratch -/

theorem runs_bands (i : grid0.Coords) (rb : Fin 2) (chs : List (Fin 16)) : ∀ (y : FVec F S520x512 .f32) (K : PUnit → sProp 𝕄),
    iprop((owns (c : Thread nD τ) arg2 fullShare w ∗ owns (c : Thread nD τ) arg3 fullShare x) ∗ owns (c : Thread nD τ) arg5 fullShare y
      ∗ ((owns (c : Thread nD τ) arg2 fullShare w ∗ owns (c : Thread nD τ) arg3 fullShare x)
          ∗ owns (c : Thread nD τ) arg5 fullShare (bandsV rb (bandV i w x) chs y) -∗ K ⟨⟩))
      ⊢ runs c E (bands i rb arg2 arg3 arg5 chs) K := by
  induction chs with
  | nil =>
    intro y K
    iintro ⟨H, H5, Hk⟩
    iapply (runs_pure c E)
    iapply Hk
    isplitl [H]
    · iexact H
    iexact H5
  | cons ch chs ih =>
    intro y K
    refine .trans ?_ (runs_bind c E (band i arg2 arg3 ch) _ K)
    iintro ⟨H, H5, Hk⟩
    iapply (runs_band c E arg2 arg3 w x i ch _)
    isplitl [H]
    · iexact H
    iintro H
    iapply (runs_bind c E _ _ K)
    iapply (runs_load c E arg5 y _ _ (inb_dst rb ch) _ _)
    isplitl [H5]
    · iexact H5
    iintro H5
    iapply (runs_bind c E _ _ K)
    iapply (runs_store c E arg5 y _ _ (inb_dst rb ch) _ _ _ _)
    isplitl [H5]
    · iexact H5
    iintro H5
    iapply (ih _ K)
    isplitl [H]
    · iexact H
    isplitl [H5]
    · iexact H5
    iexact Hk

theorem runs_halo (K : PUnit → sProp 𝕄) :
    iprop(owns (c : Thread nD τ) arg5 fullShare y ∗ (owns (c : Thread nD τ) arg5 fullShare (haloV y) -∗ K ⟨⟩)) ⊢ runs c E (halo arg5) K := by
  refine .trans ?_ (runs_bind c E _ _ K)
  iintro ⟨H5, Hk⟩
  iapply (runs_load c E arg5 y _ _ inb_S520x512_S2x512_0_0 _ _)
  isplitl [H5]
  · iexact H5
  iintro H5
  iapply (runs_bind c E _ _ K)
  iapply (runs_store c E arg5 y _ _ inb_S520x512_S2x512_0_0 _ _ _ _)
  isplitl [H5]
  · iexact H5
  iintro H5
  iapply (runs_bind c E _ _ K)
  iapply (runs_load c E arg5 _ _ _ inb_S520x512_S6x512_514_0 _ _)
  isplitl [H5]
  · iexact H5
  iintro H5
  iapply (runs_store c E arg5 _ _ _ inb_S520x512_S6x512_514_0 _ _ _ _)
  isplitl [H5]
  · iexact H5
  iexact Hk

/-! ## The convolution -/

theorem runs_row (k : Fin 64) (d : Fin 5) : Reads c E arg5 y (row arg5 k d) (rowV y k d) :=
  Reads.bind c E (fun K => runs_load c E arg5 y _ _ (inb_row k d) _ K) (Reads.pure c E _)

theorem runs_rows (k : Fin 64) : Reads c E arg5 y (rows arg5 k) (rowsV y k) :=
  Reads.bind c E (fun K => runs_load c E arg5 y _ _ (inb_rows k) _ K) (Reads.pure c E _)

theorem runs_edge (k : Fin 64) : Reads c E arg5 y (edge arg5 k) (edgeV y k) := by
  have hr := runs_row c E arg5 y k
  exact .bind c E (hr 0) (.bind c E (hr 1) (.bind c E (hr 2) (.bind c E (hr 3) (.bind c E (hr 4) (.bind c E (runs_rows c E arg5 y k) (.pure c E _))))))

theorem runs_edges (ks : List (Fin 64)) : ∀ acc : FVec F S8x512 .f32, Reads c E arg5 y (edges arg5 ks acc) (edgesV y ks acc) := by
  induction ks with
  | nil => exact fun _ => Reads.pure c E _
  | cons k ks ih => exact fun _ => Reads.bind c E (runs_edge c E arg5 y k) (ih _)

theorem runs_allEdges : Reads c E arg5 y (allEdges arg5) (allEdgesV y) :=
  Reads.bind c E (runs_edge c E arg5 y 0) (runs_edges c E arg5 y _ _)

theorem runs_outLd : Reads c E arg4 o (outLd arg4) (VecWindow.window o ![0, 0] S1x1.size inb_S1x1_S1x1_0_0) :=
  Reads.bind c E (fun K => runs_load c E arg4 o _ _ inb_S1x1_S1x1_0_0 _ K) (Reads.pure c E _)

theorem runs_outSt (v : FVec F S1x1 .f32) (K : PUnit → sProp 𝕄) :
    iprop(owns (c : Thread nD τ) arg4 fullShare o ∗ (owns (c : Thread nD τ) arg4 fullShare (VecWindow.put o ![0, 0] S1x1.size v) -∗ K ⟨⟩))
      ⊢ runs c E (outSt arg4 v) K := runs_store c E arg4 o _ _ inb_S1x1_S1x1_0_0 v _ _ K

/-- Reading the whole one-word result, and writing it. -/
theorem window_out : (VecWindow.window o ![0, 0] S1x1.size inb_S1x1_S1x1_0_0 : FVec F S1x1 .f32) = o := by
  funext z; exact congrArg o (funext fun a => Fin.ext (by have h1 := (((Rect.unit (s := S1x1) ![0, 0] S1x1.size inb_S1x1_S1x1_0_0).emb z) a).isLt; have h2 := (z a).isLt; fin_cases a <;> simp [S1x1, Shape.size] at h1 h2 ⊢ <;> omega))

theorem put_out (v : FVec F S1x1 .f32) : (VecWindow.put o ![0, 0] S1x1.size v : FVec F S1x1 .f32) = v := by
  have h := VecWindow.window_put_same o ![0, 0] S1x1.size inb_S1x1_S1x1_0_0 v
  rwa [window_out] at h

end

end Cert.KernelIdeal.Structured
end
-- ==== Proof.Scratch.lean ====
/-
  What the scratch holds once both row blocks are in it: every row is written, so what was there before does not matter.
-/
module

public import proofs.«01_k».proof.Proof.Body
public import Idealize.ShloMosaic.Lib.Pipeline.Value

@[expose] public section

noncomputable section

namespace Cert.KernelIdeal.Structured

open Idealize.ShloMosaic Idealize.ShloMosaic.TcCoe
open Cert.KernelIdeal Cert.KernelIdeal.Gen

variable {F : FTy → Type} [FloatOps F] [Named F]

/-- The position of row `r`, column `x`, of a band. -/
def at16 (r : Fin 16) (x : Fin 512) : S16x512.Idx := fun a => match a with | ⟨0, _⟩ => r | ⟨1, _⟩ => x
def at520 (r : Fin 520) (x : Fin 512) : S520x512.Idx := fun a => match a with | ⟨0, _⟩ => r | ⟨1, _⟩ => x

theorem at520_eta (z : S520x512.Idx) : at520 (z 0) (z 1) = z := by
  funext a; fin_cases a <;> rfl

/-- Whole rows put into the scratch: the payload there, else what was there. -/
theorem put_rows (y : FVec F S520x512 .f32) (o n : ℕ) (u : ((a : Fin 2) → Fin ((⟨2, ![n, 512]⟩ : Shape).size a)) → F .f32) (r : Fin 520) (x : Fin 512) :
    VecWindow.put y ![o, 0] (⟨2, ![n, 512]⟩ : Shape).size u (at520 r x)
    = if h : o ≤ r.val ∧ r.val < o + n then u (fun a => match a with | ⟨0, _⟩ => (⟨r.val - o, by omega⟩ : Fin n) | ⟨1, _⟩ => x) else y (at520 r x) := by
  unfold VecWindow.put
  have key : (∀ a, (![o, 0] : Fin 2 → ℕ) a ≤ (at520 r x a).val ∧ (at520 r x a).val < (![o, 0] : Fin 2 → ℕ) a + (⟨2, ![n, 512]⟩ : Shape).size a)
      ↔ (o ≤ r.val ∧ r.val < o + n) := by
    constructor
    · intro h; exact h 0
    · intro h a; fin_cases a
      · exact h
      · exact ⟨Nat.zero_le _, by have := x.isLt; show x.val < 0 + 512; omega⟩
  by_cases h : o ≤ r.val ∧ r.val < o + n
  · rw [dif_pos (key.mpr h), dif_pos h]
    congr 1
    funext a; fin_cases a
    · rfl
    · rfl
  · rw [dif_neg (fun h' => h (key.mp h')), dif_neg h]

/-- Zero. -/
abbrev zero32 : F .f32 := Scalar.ofBits .f32 0x00000000#32

/-- The scratch after its outer rows are zeroed, at a position. -/
theorem haloV_apply (y : FVec F S520x512 .f32) (r : Fin 520) (x : Fin 512) :
    haloV y (at520 r x) = if r.val < 2 ∨ 514 ≤ r.val then zero32 else y (at520 r x) := by
  unfold haloV
  rw [show shapeCast S2x512 (broadcast S2x512 (Scalar.ofBits .f32 0x00000000#32 : F .f32)) shapeCasts_S2x512_S2x512 = fun _ => zero32 from rfl,
    show shapeCast S6x512 (broadcast S6x512 (Scalar.ofBits .f32 0x00000000#32 : F .f32)) shapeCasts_S6x512_S6x512 = fun _ => zero32 from rfl]
  refine (put_rows _ 514 6 _ r x).trans ?_
  rw [show VecWindow.put y ![0, 0] S2x512.size (fun _ => zero32) (at520 r x) = _ from put_rows y 0 2 _ r x]
  have := r.isLt
  by_cases h6 : 514 ≤ r.val
  · rw [dif_pos ⟨h6, by omega⟩, if_pos (.inr h6)]
  · rw [dif_neg (fun h => h6 h.1)]
    by_cases h2 : r.val < 2
    · rw [dif_pos ⟨by omega, by omega⟩, if_pos (.inl h2)]
    · rw [dif_neg (fun h => h2 (by omega)), if_neg (by omega)]

/-- The scratch after bands are put into it, at a position. -/
theorem bandsV_apply (rb : Fin 2) (f : Fin 16 → FVec F S16x512 .f32) (r : Fin 520) (x : Fin 512) (chs : List (Fin 16)) : ∀ y : FVec F S520x512 .f32,
    bandsV rb f chs y (at520 r x)
    = if 2 + 256 * rb.val ≤ r.val ∧ r.val < 258 + 256 * rb.val ∧ (Fin.ofNat 16 ((r.val - 2) % 256 / 16)) ∈ chs
      then f (Fin.ofNat 16 ((r.val - 2) % 256 / 16)) (at16 (Fin.ofNat 16 ((r.val - 2) % 16)) x) else y (at520 r x) := by
  induction chs with
  | nil => intro y; rw [if_neg (by simp)]; rfl
  | cons ch chs ih =>
    intro y
    rw [bandsV, ih]
    have hrb := rb.isLt; have hr := r.isLt; have hch := ch.isLt
    by_cases h : 2 + 256 * rb.val ≤ r.val ∧ r.val < 258 + 256 * rb.val ∧ (Fin.ofNat 16 ((r.val - 2) % 256 / 16)) ∈ chs
    · rw [if_pos h, if_pos ⟨h.1, h.2.1, List.mem_cons_of_mem _ h.2.2⟩]
    · rw [if_neg h, show shapeCast S16x512 (f ch) shapeCasts_S16x512_S16x512 = f ch from shapeCast_self ..]
      rw [show VecWindow.put y ![2 + 256 * rb.val + 16 * ch.val, 0] S16x512.size (f ch) (at520 r x) = _ from put_rows y _ 16 _ r x]
      by_cases h' : 2 + 256 * rb.val + 16 * ch.val ≤ r.val ∧ r.val < 2 + 256 * rb.val + 16 * ch.val + 16
      · have hband : (r.val - 2) % 256 / 16 = ch.val := by omega
        have e : Fin.ofNat 16 ((r.val - 2) % 256 / 16) = ch := Fin.ext (by rw [Fin.val_ofNat]; omega)
        rw [dif_pos h', if_pos ⟨by omega, by omega, by rw [e]; exact List.mem_cons_self⟩, e]
        congr 1
        funext a; fin_cases a
        · exact Fin.ext (by show r.val - (2 + 256 * rb.val + 16 * ch.val) = (r.val - 2) % 16 % 16; omega)
        · rfl
      · rw [dif_neg h', if_neg]
        rintro ⟨h1, h2, h3⟩
        rcases List.mem_cons.mp h3 with h3 | h3
        · have := congrArg Fin.val h3
          rw [Fin.val_ofNat] at this
          omega
        · exact h ⟨h1, h2, h3⟩

/-- The scratch at a point of the second row block, once its bands are in: the label-weighted softmax of the image, between rows of
    zeros. `q` is a row of the image. -/
def fullV (n : Fin 4) (w : FVec F S4x21 .f32) (xt xb : FVec F S1x21x256x512 .f32) : FVec F S520x512 .f32 := fun z =>
  if 2 ≤ (z 0).val ∧ (z 0).val < 514 then
    if (z 0).val < 258 then bandV (pt n 0) w xt (Fin.ofNat 16 (((z 0).val - 2) % 256 / 16)) (at16 (Fin.ofNat 16 (((z 0).val - 2) % 16)) (z 1))
    else bandV (pt n 1) w xb (Fin.ofNat 16 (((z 0).val - 2) % 256 / 16)) (at16 (Fin.ofNat 16 (((z 0).val - 2) % 16)) (z 1))
  else zero32

theorem mem_allBands : ∀ ch : Fin 16, ch ∈ allBands := by decide

/-- It is what the two points leave, whatever was in the scratch before. -/
theorem bottomS_topS (n : Fin 4) (w : FVec F S4x21 .f32) (xt xb : FVec F S1x21x256x512 .f32) (y : FVec F S520x512 .f32) :
    bottomS n w xb (topS n w xt y) = fullV n w xt xb := by
  funext z
  rw [← at520_eta z]
  generalize hr : z 0 = r
  generalize hx : z 1 = x
  change Fin 520 at r
  change Fin 512 at x
  unfold bottomS topS
  rw [bandsV_apply, bandsV_apply, haloV_apply]
  unfold fullV
  show _ = if 2 ≤ r.val ∧ r.val < 514 then if r.val < 258 then bandV (pt n 0) w xt (Fin.ofNat 16 ((r.val - 2) % 256 / 16)) (at16 (Fin.ofNat 16 ((r.val - 2) % 16)) x)
    else bandV (pt n 1) w xb (Fin.ofNat 16 ((r.val - 2) % 256 / 16)) (at16 (Fin.ofNat 16 ((r.val - 2) % 16)) x) else zero32
  have h0 : ((0 : Fin 2) : ℕ) = 0 := rfl
  have h1 : ((1 : Fin 2) : ℕ) = 1 := rfl
  have hlt := r.isLt
  rw [h0, h1]
  by_cases a : 258 ≤ r.val ∧ r.val < 514
  · rw [if_pos ⟨by omega, by omega, mem_allBands _⟩, if_pos (by omega), if_neg (by omega)]
  · rw [if_neg (by rintro ⟨h, h', -⟩; omega)]
    by_cases b : 2 ≤ r.val ∧ r.val < 258
    · rw [if_pos ⟨by omega, by omega, mem_allBands _⟩, if_pos (by omega), if_pos (by omega)]
    · rw [if_neg (by rintro ⟨h, h', -⟩; omega), if_pos (by omega), if_neg (by omega)]

end Cert.KernelIdeal.Structured
end
-- ==== Proof.Run.lean ====
/-
  The kernel's run: what the scratch and the result hold from point to point of the grid, the body at each point, and the run
  of the whole program.
-/
module

public import proofs.«01_k».proof.Proof.Scratch
public import proofs.«01_k».proof.Proof.Gen.KernelIdeal.Frame
public import Idealize.ShloMosaic.Lib.Claim

@[expose] public section

noncomputable section

namespace Cert.KernelIdeal.Structured

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The body's two kinds of points -/

section
variable (c : Dev nD) (E : Set ℕ) (n : Fin 4)
  (arg2 : Memref sig .tc .smem S4x21 .f32) (harg2 : arg2.IsWhole) (arg3 : Memref sig .tc .vmem S1x21x256x512 .f32) (harg3 : arg3.IsWhole)
  (arg4 : Memref sig .tc .vmem S1x1 .f32) (harg4 : arg4.IsWhole) (arg5 : Memref sig .tc .vmem S520x512 .f32) (harg5 : arg5.IsWhole)
  (w : FVec F S4x21 .f32) (x : FVec F S1x21x256x512 .f32) (o : FVec F S1x1 .f32) (y : FVec F S520x512 .f32)

/-- A point of the first row block reads the table and the image and leaves the scratch at `topS`. -/
theorem runs_top (K : PUnit → sProp 𝕄) :
    iprop((owns (c : Thread nD τ) arg2 fullShare w ∗ owns (c : Thread nD τ) arg3 fullShare x) ∗ owns (c : Thread nD τ) arg5 fullShare y
      ∗ ((owns (c : Thread nD τ) arg2 fullShare w ∗ owns (c : Thread nD τ) arg3 fullShare x) ∗ owns (c : Thread nD τ) arg5 fullShare (topS n w x y) -∗ K ⟨⟩))
      ⊢ runs c E (cc0__body (F := F) (pt n 0) arg2 harg2 arg3 harg3 arg4 harg4 arg5 harg5) K := by
  rw [body_top]
  refine .trans ?_ (runs_bind c E (halo arg5) _ K)
  iintro ⟨H, H5, Hk⟩
  iapply (runs_halo c E arg5 y _)
  isplitl [H5]
  · iexact H5
  iintro H5
  iapply (runs_bands c E arg2 arg3 arg5 w x (pt n 0) 0 allBands (haloV y) K)
  isplitl [H]
  · iexact H
  isplitl [H5]
  · iexact H5
  iexact Hk

omit n w x y harg4 in
theorem finish_pos (n : Fin 4) (hn : n ≠ 0) (e : FVec F S8x512 .f32) : finish n arg4 e = (do
    let v ← outLd arg4
    let _v ← outLd arg4
    outSt arg4 (addf (shapeCast S1x1 v shapeCasts_S1x1_S1x1) (broadcast S1x1 (total e)))) := by
  match n, hn with
  | 0, hn => exact absurd rfl hn
  | 1, _ => rfl
  | 2, _ => rfl
  | 3, _ => rfl

omit n w x in
theorem outV_pos (n : Fin 4) (hn : n ≠ 0) :
    outV n y o = addf (shapeCast S1x1 o shapeCasts_S1x1_S1x1) (broadcast S1x1 (total (allEdgesV y))) := by
  match n, hn with
  | 0, hn => exact absurd rfl hn
  | 1, _ => rfl
  | 2, _ => rfl
  | 3, _ => rfl

/-- The result after a point of the second row block. -/
theorem runs_finish (K : PUnit → sProp 𝕄) :
    iprop(owns (c : Thread nD τ) arg4 fullShare o ∗ (owns (c : Thread nD τ) arg4 fullShare (outV n y o) -∗ K ⟨⟩))
      ⊢ runs c E (finish n arg4 (allEdgesV y)) K := by
  by_cases hn : n = 0
  · subst hn
    show _ ⊢ runs c E (outLd arg4 >>= fun _ => outSt arg4 (broadcast S1x1 (total (allEdgesV y)))) K
    refine .trans ?_ (runs_bind c E _ _ K)
    iintro ⟨H4, Hk⟩
    iapply (runs_outLd c E arg4 o _)
    isplitl [H4]
    · iexact H4
    iintro H4
    iapply (runs_outSt c E arg4 o _ K)
    isplitl [H4]
    · iexact H4
    rw [put_out]
    iexact Hk
  · rw [finish_pos arg4 n hn, outV_pos o y n hn]
    refine .trans ?_ (runs_bind c E _ _ K)
    iintro ⟨H4, Hk⟩
    iapply (runs_outLd c E arg4 o _)
    isplitl [H4]
    · iexact H4
    iintro H4
    iapply (runs_bind c E _ _ K)
    iapply (runs_outLd c E arg4 o _)
    isplitl [H4]
    · iexact H4
    iintro H4
    iapply (runs_outSt c E arg4 o _ K)
    isplitl [H4]
    · iexact H4
    rw [put_out, window_out]
    iexact Hk

/-- A point of the second row block. -/
theorem runs_bottom (K : PUnit → sProp 𝕄) :
    iprop((owns (c : Thread nD τ) arg2 fullShare w ∗ owns (c : Thread nD τ) arg3 fullShare x) ∗ owns (c : Thread nD τ) arg4 fullShare o
      ∗ owns (c : Thread nD τ) arg5 fullShare y
      ∗ ((owns (c : Thread nD τ) arg2 fullShare w ∗ owns (c : Thread nD τ) arg3 fullShare x) ∗ owns (c : Thread nD τ) arg4 fullShare (outV n (bottomS n w x y) o)
          ∗ owns (c : Thread nD τ) arg5 fullShare (bottomS n w x y) -∗ K ⟨⟩))
      ⊢ runs c E (cc0__body (F := F) (pt n 1) arg2 harg2 arg3 harg3 arg4 harg4 arg5 harg5) K := by
  rw [body_bottom]
  unfold bottom
  refine .trans ?_ (runs_bind c E _ _ K)
  iintro ⟨H, H4, H5, Hk⟩
  iapply (runs_bands c E arg2 arg3 arg5 w x (pt n 1) 1 allBands y _)
  isplitl [H]
  · iexact H
  isplitl [H5]
  · iexact H5
  iintro ⟨H, H5⟩
  iapply (runs_bind c E _ _ K)
  iapply (runs_allEdges c E arg5 (bottomS n w x y) _)
  isplitl [H5]
  · iexact H5
  iintro H5
  iapply (runs_finish c E n arg4 o (bottomS n w x y) K)
  isplitl [H4]
  · iexact H4
  iintro H4
  iapply Hk
  isplitl [H]
  · iexact H
  isplitl [H4]
  · iexact H4
  iexact H5

end

/-! ## The points of the grid -/

/-- The point of batch entry `n` and row block `rb`. -/
def point (n : Fin 4) (rb : Fin 2) : Fin cfg0.N := ⟨2 * n.val + rb.val, by have := n.isLt; have := rb.isLt; rw [show cfg0.N = 8 from N_0]; omega⟩

theorem point_cases (t : Fin cfg0.N) : ∃ n rb, t = point n rb := by
  have h : t.val < 8 := lt_of_lt_of_eq t.isLt N_0
  exact ⟨⟨t.val / 2, by omega⟩, ⟨t.val % 2, by omega⟩, Fin.ext (by show t.val = 2 * (t.val / 2) + t.val % 2; omega)⟩

theorem coords_point : ∀ (n : Fin 4) (rb : Fin 2), grid0.coords (point n rb) = pt n rb := by
  intro n rb; funext a; fin_cases n <;> fin_cases rb <;> fin_cases a <;> rfl

theorem idle_top : ∀ n : Fin 4, cfg0.idle 2 (pt n 0) = true := by decide
theorem idle_bottom : ∀ n : Fin 4, cfg0.idle 2 (pt n 1) = false := by decide

variable (m : (ℓ : Loc nD τ sig) → Buf (Elt F) ℓ) (ρ : Dev nD → PrngReg)

/-- The table of weights, and the image's blocks, as the region finds them. -/
def tab (c : Dev nD) : FVec F S4x21 .f32 := iblk m c 0 (point 0 0)
def img (c : Dev nD) (n : Fin 4) (rb : Fin 2) : FVec F S1x21x256x512 .f32 := iblk m c 1 (point n rb)

theorem iblk_tab (c : Dev nD) (t : Fin cfg0.N) : iblk m c 0 t = tab m c := rfl

/-- The scratch at batch entry `n`'s convolution. -/
def full (c : Dev nD) (n : Fin 4) : FVec F S520x512 .f32 := fullV n (tab m c) (img m c n 0) (img m c n 1)

/-- The result after the convolution of batch entry `k`. -/
def outAt (c : Dev nD) : ℕ → FVec F S1x1 .f32
  | 0 => outV 0 (full m c 0) (fun _ => zero32)
  | k + 1 => outV (Fin.ofNat 4 (k + 1)) (full m c (Fin.ofNat 4 (k + 1))) (outAt c k)

/-- The scratch operand. -/
abbrev scr : Memref sig .tc .vmem S520x512 .f32 := Memref.whole cc0_scratch0

/-- What is known of the scratch before point `p`. -/
def scrAt (c : Dev nD) (p : ℕ) : sProp 𝕄 :=
  if p % 2 = 1 then iprop(∃ y, owns (c : Thread nD τ) scr fullShare (topS (Fin.ofNat 4 (p / 2)) (tab m c) (img m c (Fin.ofNat 4 (p / 2)) 0) y))
  else iprop(∃ y, owns (c : Thread nD τ) scr fullShare y)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c (t.val / 2)
  Φ t := iprop(scrAt m c t.val ∗ ∃ r, prngReg c r)
  q _ := fullShare
  owed _ := 0

theorem A_eq (c : Dev nD) (w : Fin cfg0.W) : (dats m 0 c).A w = V m c (Pipeline.arrRef spec0 w) := by
  dsimp only [dats]

theorem after_tab (c : Dev nD) (t : Fin cfg0.N) : (dats m 0 c).after 0 t = iblk m c 0 t := by dsimp only [dats]
theorem after_img (c : Dev nD) (t : Fin cfg0.N) : (dats m 0 c).after 1 t = iblk m c 1 t := by dsimp only [dats]
theorem after_out (c : Dev nD) (t : Fin cfg0.N) : (dats m 0 c).after 2 t = outAt m c (t.val / 2) := by dsimp only [dats]

theorem before_tab (c : Dev nD) (t : Fin cfg0.N) (d) : (dats m 0 c).before 0 t d = iblk m c 0 t :=
  before0_0_of m (dats m 0 c) (A_eq m c 0) (after_tab m c) t d
theorem before_img (c : Dev nD) (t : Fin cfg0.N) (d) : (dats m 0 c).before 1 t d = iblk m c 1 t :=
  before0_1_of m (dats m 0 c) (A_eq m c 1) (after_img m c) t d

/-- The result's buffer is written back after the last point only. -/
theorem flush_early (t : Fin cfg0.N) (h : t.val < 7) : (cfg0.win 2).flush t = false := by
  rcases hf : (cfg0.win 2).flush t with _ | _
  · rfl
  · have := (flush0_2 t).mp hf; omega

/-- At a later batch entry's points the result's buffer holds what the entry before left. -/
theorem before_out_top (c : Dev nD) (n : Fin 4) (hn : n ≠ 0) (d) : (dats m 0 c).before 2 (point n 0) d = outAt m c (n.val - 1) := by
  have hpos : 0 < n.val := Nat.pos_of_ne_zero fun h => hn (Fin.ext h)
  have hlt := n.isLt
  have hne : (point n 0).val ≠ 0 := by show 2 * n.val + 0 ≠ 0; omega
  rw [(dats m 0 c).before_of_pos 2 (point n 0) hne ((cfg0.win 2).fetch_out rfl _)]
  have hp : (⟨(point n 0).val - 1, Nat.lt_of_le_of_lt (Nat.sub_le _ _) (point n 0).isLt⟩ : Fin cfg0.N) = point ⟨n.val - 1, by omega⟩ 1 :=
    Fin.ext (by show 2 * n.val + 0 - 1 = 2 * (n.val - 1) + 1; omega)
  rw [hp, flush_early _ (by show 2 * (n.val - 1) + 1 < 7; omega), if_neg Bool.false_ne_true]
  unfold Dat.left
  rw [coords_point, idle_bottom]
  show (dats m 0 c).after 2 (point ⟨n.val - 1, by omega⟩ 1) = _
  rw [after_out]
  congr 1
  show (2 * (n.val - 1) + 1) / 2 = n.val - 1
  omega

theorem before_out_bottom (c : Dev nD) (n : Fin 4) (d) : (dats m 0 c).before 2 (point n 1) d = (dats m 0 c).before 2 (point n 0) d := by
  have hlt := n.isLt
  have hne : (point n 1).val ≠ 0 := by show 2 * n.val + 1 ≠ 0; omega
  rw [(dats m 0 c).before_of_pos 2 (point n 1) hne ((cfg0.win 2).fetch_out rfl _)]
  have hp : (⟨(point n 1).val - 1, Nat.lt_of_le_of_lt (Nat.sub_le _ _) (point n 1).isLt⟩ : Fin cfg0.N) = point n 0 := Fin.ext rfl
  rw [hp, flush_early _ (by show 2 * n.val + 0 < 7; omega), if_neg Bool.false_ne_true]
  unfold Dat.left
  rw [coords_point, idle_top]

/-- The result after batch entry `n`, from what its buffer held before. -/
theorem outAt_eq (c : Dev nD) (n : Fin 4) (d) :
    outV n (full m c n) ((dats m 0 c).before 2 (point n 1) d) = outAt m c n.val := by
  rw [before_out_bottom]
  by_cases hn : n = 0
  · subst hn; rfl
  · rw [before_out_top m c n hn]
    have hpos : 0 < n.val := Nat.pos_of_ne_zero fun h => hn (Fin.ext h)
    obtain ⟨k, hk⟩ : ∃ k, n.val = k + 1 := ⟨n.val - 1, by omega⟩
    have e : Fin.ofNat 4 (k + 1) = n := Fin.ext (by rw [Fin.val_ofNat]; have := n.isLt; omega)
    rw [hk, Nat.add_sub_cancel]
    show _ = outV (Fin.ofNat 4 (k + 1)) (full m c (Fin.ofNat 4 (k + 1))) (outAt m c k)
    rw [e]

/-! ## The body at every point -/

abbrev stTab (t : Fin cfg0.N) : Memref sig .tc .smem S4x21 .f32 := win0_0.stage (cfg0.slots t 0)
abbrev stImg (t : Fin cfg0.N) : Memref sig .tc .vmem S1x21x256x512 .f32 := win0_1.stage (cfg0.slots t 1)
abbrev stOut (t : Fin cfg0.N) : Memref sig .tc .vmem S1x1 .f32 := win0_2.stage (cfg0.slots t 2)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (stTab t) fullShare ((dats m 0 c).before 0 t d))
    ∗ (∃ d, owns (c : Thread nD τ) (stImg t) fullShare ((dats m 0 c).before 1 t d))
    ∗ (∃ d, owns (c : Thread nD τ) (stOut t) fullShare ((dats m 0 c).before 2 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

theorem leaves_tab (c : Dev nD) (t : Fin cfg0.N) : (dats m 0 c).leavesExact 0 t = owns (c : Thread nD τ) (stTab t) fullShare (iblk m c 0 t) := by
  unfold Dat.leavesExact; rw [show cfg0.idle 0 (grid0.coords t) = false from rfl, after_tab]
theorem leaves_img (c : Dev nD) (t : Fin cfg0.N) : (dats m 0 c).leavesExact 1 t = owns (c : Thread nD τ) (stImg t) fullShare (iblk m c 1 t) := by
  unfold Dat.leavesExact; rw [show cfg0.idle 1 (grid0.coords t) = false from rfl, after_img]
theorem leaves_out_top (c : Dev nD) (n : Fin 4) : (dats m 0 c).leavesExact 2 (point n 0)
    = iprop(∃ d, owns (c : Thread nD τ) (stOut (point n 0)) fullShare ((dats m 0 c).before 2 (point n 0) d)) := by
  unfold Dat.leavesExact
  rw [coords_point, idle_top, flush_early (point n 0) (by have := n.isLt; show 2 * n.val + 0 < 7; omega)]
theorem leaves_out_bottom (c : Dev nD) (n : Fin 4) : (dats m 0 c).leavesExact 2 (point n 1)
    = owns (c : Thread nD τ) (stOut (point n 1)) fullShare (outAt m c n.val) := by
  unfold Dat.leavesExact
  rw [coords_point, idle_bottom, after_out, show (point n 1).val / 2 = n.val by show (2 * n.val + 1) / 2 = n.val; omega]

theorem Phi_even (c : Dev nD) (t : Fin (cfg0.N + 1)) (h : t.val % 2 = 0) :
    (dats m 0 c).Φ t = iprop((∃ y, owns (c : Thread nD τ) scr fullShare y) ∗ ∃ r, prngReg c r) := by
  dsimp only [dats]; unfold scrAt; rw [if_neg (by omega)]
theorem Phi_odd (c : Dev nD) (t : Fin (cfg0.N + 1)) (n : Fin 4) (h : t.val = 2 * n.val + 1) :
    (dats m 0 c).Φ t = iprop((∃ y, owns (c : Thread nD τ) scr fullShare (topS n (tab m c) (img m c n 0) y)) ∗ ∃ r, prngReg c r) := by
  have e : Fin.ofNat 4 (t.val / 2) = n := Fin.ext (by rw [Fin.val_ofNat]; have := n.isLt; omega)
  dsimp only [dats]; unfold scrAt; rw [if_pos (by omega), e]

theorem sound_top (c : Dev nD) (n : Fin 4) :
    bodyPre m c (point n 0) ⊢ wp frame (wpE (defs₀ (F := F)) Variants.none c none) Set.univ (bodyAt0 (point n 0)) (fun _ => bodyPost m c (point n 0)) := by
  unfold bodyPre bodyPost bodyAt0
  simp only [before_tab, before_img]
  rw [leaves_tab, leaves_img, leaves_out_top, Phi_even m c (point n 0).castSucc (by show (2 * n.val + 0) % 2 = 0; omega),
    Phi_odd m c (point n 0).succ n rfl, show (dats m 0 c).owesAt () (point n 0).succ = (dats m 0 c).owesAt () (point n 0).castSucc from rfl,
    coords_point]
  iintro ⟨⟨⟨%y, Hs⟩, Hg⟩, Ho, ⟨%d0, H0⟩, ⟨%d1, H1⟩, H2⟩
  iapply (runs_top c Set.univ n _ _ _ _ _ _ _ _ (tab m c) (img m c n 0) y _)
  isplitl [H0 H1]
  · isplitl [H0]
    · iexact H0
    iexact H1
  isplitl [Hs]
  · iexact Hs
  iintro ⟨⟨H0, H1⟩, Hs⟩
  isplitl [Hs Hg]
  · isplitl [Hs]
    · iexists y; iexact Hs
    iexact Hg
  isplitl [Ho]
  · iexact Ho
  isplitl [H0]
  · iexact H0
  isplitl [H1]
  · iexact H1
  iexact H2

theorem sound_bottom (c : Dev nD) (n : Fin 4) :
    bodyPre m c (point n 1) ⊢ wp frame (wpE (defs₀ (F := F)) Variants.none c none) Set.univ (bodyAt0 (point n 1)) (fun _ => bodyPost m c (point n 1)) := by
  unfold bodyPre bodyPost bodyAt0
  simp only [before_tab, before_img]
  rw [leaves_tab, leaves_img, leaves_out_bottom, Phi_odd m c (point n 1).castSucc n rfl,
    Phi_even m c (point n 1).succ (by show (2 * n.val + 1 + 1) % 2 = 0; omega),
    show (dats m 0 c).owesAt () (point n 1).succ = (dats m 0 c).owesAt () (point n 1).castSucc from rfl, coords_point]
  iintro ⟨⟨⟨%y, Hs⟩, Hg⟩, Ho, ⟨%d0, H0⟩, ⟨%d1, H1⟩, ⟨%d2, H2⟩⟩
  iapply (runs_bottom c Set.univ n _ _ _ _ _ _ _ _ (tab m c) (img m c n 1) ((dats m 0 c).before 2 (point n 1) d2) (topS n (tab m c) (img m c n 0) y) _)
  rw [bottomS_topS]
  rw [show outV n (fullV n (tab m c) (img m c n 0) (img m c n 1)) ((dats m 0 c).before 2 (point n 1) d2) = outAt m c n.val from outAt_eq m c n d2]
  isplitl [H0 H1]
  · isplitl [H0]
    · iexact H0
    iexact H1
  isplitl [H2]
  · iexact H2
  isplitl [Hs]
  · iexact Hs
  iintro ⟨⟨H0, H1⟩, H2, Hs⟩
  isplitl [Hs Hg]
  · isplitl [Hs]
    · iexists _; iexact Hs
    iexact Hg
  isplitl [Ho]
  · iexact Ho
  isplitl [H0]
  · iexact H0
  isplitl [H1]
  · iexact H1
  iexact H2

theorem sound_body (c : Dev nD) (t : Fin cfg0.N) :
    bodyPre m c t ⊢ wp frame (wpE (defs₀ (F := F)) Variants.none c none) Set.univ (bodyAt0 t) (fun _ => bodyPost m c t) := by
  obtain ⟨n, rb, rfl⟩ := point_cases t
  match rb with
  | 0 => exact sound_top m c n
  | 1 => exact sound_bottom m c n

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run of the whole program -/

theorem PhiA_eq (c : Dev nD) : (Pipeline.ΦA spec0 c : sProp 𝕄)
    = iprop((∃ y, owns (c : Thread nD τ) scr fullShare y) ∗ ∃ r, prngReg c r) := by
  unfold Pipeline.ΦA; rw [scopedRest0_eq]; simp only [scr, owns_whole]; try rfl

set_option backward.isDefEq.respectTransparency.types false in
set_option maxHeartbeats 800000 in
/-- Every execution ends, with the arrays as the proof data say, the other buffers as the host operations leave them, and every
    counter at zero. -/
theorem run_main_quiescent : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by rw [Phi_even m c 0 rfl]; exact .of_eq (PhiA_eq c))
    (hout := fun c => by rw [Phi_even m c (Fin.last cfg0.N) rfl]; exact .of_eq (PhiA_eq c).symm)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end as they were and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelIdeal.Structured
end
-- ==== Proof.Original.lean ====
/-
  The original program is the idealized one with the named constant read as the word it names, so it runs as that one does.
-/
module

public import proofs.«01_k».proof.Proof.Run
public import proofs.«01_k».proof.Proof.Gen.Kernel

@[expose] public section

noncomputable section

namespace Cert.Original

open Idealize.ShloMosaic Idealize.ShloMosaic.TcCoe Idealize.ShloMosaic.Tactic
open Idealize.SL.Sem

variable {F : FTy → Type} [FloatOps F]

/-- A named constant read as the word it names. -/
@[reducible] def asWord (F : FTy → Type) [FloatOps F] : Named F := ⟨fun _ _ {φ} bits => Scalar.ofBits φ bits⟩

theorem defs_same : Cert.Kernel.defs (F := F) = (letI := asWord F; Cert.KernelIdeal.defs (F := F)) := by
  sl_kernel_rfl

theorem main_same : Cert.Kernel.main (F := F) = (letI := asWord F; Cert.KernelIdeal.main (F := F)) := by
  sl_kernel_rfl

/-- The arguments end as they were and every counter is at zero. -/
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_same, main_same]
  exact @Cert.KernelIdeal.Structured.frame F _ (asWord F) m ρ

end Cert.Original
end
-- ==== Proof.Value.lean ====
/-
  What the idealized kernel's run leaves in its result, as a function of the arguments.
-/
module

public import proofs.«01_k».proof.Proof.Run
public import Idealize.ShloMosaic.Lib.Claim
public import Idealize.ShloMosaic.Lib.Pipeline.ValueKit
public import Idealize.ShloMosaic.Lib.Routing.OpsSet
public import Idealize.ShloMosaic.Lib.Routing.OpsPair

@[expose] public section

noncomputable section

namespace Cert.KernelIdeal.Structured

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F] [Named F]
variable (m : (ℓ : Loc nD τ sig) → Buf (Elt F) ℓ) (ρ : Dev nD → PrngReg)

/-- The one word of the result's array after the run is what the last point leaves. -/
theorem arr_out (c : Dev nD) : (dats m 0 c).arrAt 2 cfg0.N = outAt m c 3 := by
  refine (dats m 0 c).arrAt_eq_of_after_last 2 t0_7 (by decide +kernel) _ fun j => ?_
  blk_simp
  rw [after_out]
  rfl

/-- The result: the last sum over the number of the image's points. -/
theorem tail_out (c : Dev nD) : Pipeline.afterTail₀ cfgs (dats m) 0 (V0 m) [hostOps1] c main_v5
    = Host.divf (shapeCast S_ (outAt m c 3) shapeCasts_S1x1_S_) (constant S_ .f32 0x49800000#32) := by
  unfold Pipeline.afterTail₀
  simp only [hostOps1, List.flatten_cons, List.flatten_nil, List.append_nil]
  after_results
  exact congrArg (fun z => Host.divf (shapeCast S_ z shapeCasts_S1x1_S_) (constant S_ .f32 0x49800000#32))
    ((Pipeline.withArrays_arr spec0 (by decide) c (V0 m c) (fun w => (dats m 0 c).arrAt w cfg0.N) 2).trans (arr_out m c))

theorem img_at (c : Dev nD) (n : Fin 4) (rb : Fin 2) (k : Fin 21) (r : Fin 256) (x : Fin 512) :
    img m c n rb (ix4 0 k r x) = m ((c : Thread nD τ).loc main_arg0) (ix4 n k ⟨256 * rb.val + r.val, by omega⟩ x) := by
  unfold img iblk
  blk_simp
  rw [V_main_arg0]
  have hi : ∀ (n : Fin 4) (rb : Fin 2), win0_1.index (point n rb) 0 = n.val ∧ win0_1.index (point n rb) 1 = 0
      ∧ win0_1.index (point n rb) 2 = rb.val ∧ win0_1.index (point n rb) 3 = 0 := by decide +kernel
  obtain ⟨h0, h1, h2, h3⟩ := hi n rb
  refine congrArg _ (funext fun a => Fin.ext ?_)
  match a with
  | ⟨0, _⟩ => show win0_1.index (point n rb) 0 * 1 + 1 * 0 = n.val; rw [h0]; omega
  | ⟨1, _⟩ => show win0_1.index (point n rb) 1 * 21 + 1 * k.val = k.val; rw [h1]; omega
  | ⟨2, _⟩ => show win0_1.index (point n rb) 2 * 256 + 1 * r.val = 256 * rb.val + r.val; rw [h2]; omega
  | ⟨3, _⟩ => show win0_1.index (point n rb) 3 * 512 + 1 * x.val = x.val; rw [h3]; omega

theorem tab_at (c : Dev nD) (n : Fin 4) (k : Fin 20) :
    tab m c (ix2 n k.succ) = m ((c : Thread nD τ).loc main_arg1) (ix2 n k.succ) := by
  unfold tab iblk
  blk_simp
  entry_read
  simp only [hostOps0, List.flatten_cons, List.flatten_nil, List.append_nil]
  after_results
  have he : ((View.whole main_v2).slice (win0_0.rect (point 0 0))).emb (ix2 n k.succ) = ix2 n k.succ := by
    funext a; apply Fin.ext
    match a with
    | ⟨0, _⟩ => show win0_0.index (point 0 0) 0 * 4 + 1 * n.val = n.val; rw [show win0_0.index (point 0 0) 0 = 0 by decide +kernel]; omega
    | ⟨1, _⟩ => show win0_0.index (point 0 0) 1 * 21 + 1 * (k.val + 1) = k.val + 1; rw [show win0_0.index (point 0 0) 1 = 0 by decide +kernel]; omega
  rw [he]
  refine Routing.scatter_set_miss scatter_S4x21_S1_S4_0_1_1_0 _ _ _ (ix2 n k.succ) fun j h => ?_
  have h1 := (Routing.resultIdx?_eq_some _ _ _ _).mp h 1
  have e : scatter_S4x21_S1_S4_0_1_1_0.start j (broadcastInDim S1 ![] bcast_S_S1 (constantI S_ 32 0#32)) 1 = 0 := rfl
  have e' : scatter_S4x21_S1_S4_0_1_1_0.window j 1 = 0 := rfl
  rw [e, e'] at h1
  change (0 : Int) + ((0 : ℕ) : Int) = ((k.val + 1 : ℕ) : Int) at h1
  omega

/-- The result the run leaves. -/
def resultAt (c : Dev nD) : FVec F S_ .f32 := Host.divf (shapeCast S_ (outAt m c 3) shapeCasts_S1x1_S_) (constant S_ .f32 0x49800000#32)

/-- The run ends with that result and the arguments as they were. -/
theorem run_value : θ_run defs (onTc (τ := τ) (main (F := F))) ⟨m, fun _ => 0, ρ⟩ (fun r => ∀ c : Dev nD,
      r.2.mem ((c.tc : Thread nD τ).loc main_v5) = resultAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).2 main_v5 (Pipeline.mem_restRefs_of main_v5 (by decide) (by decide))).trans (tail_out m c), h.2.1 c⟩)
    (θ_run_and (run_main m ρ) (frame m ρ))

end Cert.KernelIdeal.Structured

end
-- ==== Proof.Consts.lean ====
/-
  The numbers that the programs' float words are.
-/
module

public import Idealize.ShloMosaic.Lib.Pointwise

@[expose] public section

noncomputable section

namespace Cert.Consts

open Idealize.ShloMosaic

/-- The masks' small entry, a rounded 1e-6. -/
def small : ℝ := 8796093 / 2 ^ 43
/-- What is added under the root, a rounded 1e-8. -/
def floor : ℝ := 11258999 / 2 ^ 50

theorem floor_nonneg : 0 ≤ floor := by unfold floor; positivity

theorem w_zero : Ideal.ofBits .f32 0x00000000#32 = ((0 : ℝ) : EReal) := by simp [Ideal.ofBits, Ideal.ieee, -EReal.coe_mul]
theorem w_small : Ideal.ofBits .f32 0x358637BD#32 = ((small : ℝ) : EReal) := by
  unfold small; simp [Ideal.ofBits, Ideal.ieee, -EReal.coe_mul]; norm_num
theorem w_floor : Ideal.ofBits .f32 0x322BCC77#32 = ((floor : ℝ) : EReal) := by
  unfold floor; simp [Ideal.ofBits, Ideal.ieee, -EReal.coe_mul]; norm_num
theorem w_one : Ideal.ofBits .f32 0x3F800000#32 = ((1 : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem w_three : Ideal.ofBits .f32 0x40400000#32 = ((3 : ℝ) : EReal) := by
  simp [Ideal.ofBits, Ideal.ieee, -EReal.coe_mul]; norm_num
theorem w_four : Ideal.ofBits .f32 0x40800000#32 = ((4 : ℝ) : EReal) := by
  simp [Ideal.ofBits, Ideal.ieee, -EReal.coe_mul]; norm_num
theorem w_neg_one : Ideal.ofBits .f32 0xBF800000#32 = ((-1 : ℝ) : EReal) := by
  simp [Ideal.ofBits, Ideal.ieee, -EReal.coe_mul]; norm_num
theorem w_neg_two : Ideal.ofBits .f32 0xC0000000#32 = ((-2 : ℝ) : EReal) := by
  simp [Ideal.ofBits, Ideal.ieee, -EReal.coe_mul]; norm_num
theorem w_neg_three : Ideal.ofBits .f32 0xC0400000#32 = ((-3 : ℝ) : EReal) := by
  simp [Ideal.ofBits, Ideal.ieee, -EReal.coe_mul]; norm_num
theorem w_neg_four : Ideal.ofBits .f32 0xC0800000#32 = ((-4 : ℝ) : EReal) := by
  simp [Ideal.ofBits, Ideal.ieee, -EReal.coe_mul]; norm_num
theorem w_thousand : Ideal.ofBits .f32 0x447A0000#32 = ((1000 : ℝ) : EReal) := by
  simp [Ideal.ofBits, Ideal.ieee, -EReal.coe_mul]; norm_num
theorem w_count : Ideal.ofBits .f32 0x49800000#32 = ((1048576 : ℝ) : EReal) := by
  simp [Ideal.ofBits, Ideal.ieee, -EReal.coe_mul]; norm_num
theorem w_bot : Ideal.ofBits .f32 0xFF800000#32 = ⊥ := by simp [Ideal.ofBits, Ideal.ieee]
theorem w_top : Ideal.ofBits .f32 0x7F800000#32 = ⊤ := by simp [Ideal.ofBits, Ideal.ieee]

end Cert.Consts

end
-- ==== Proof.Formula.lean ====
/-
  What both programs compute, over the real numbers: a softmax over the classes, two 5x5 correlations with zeros around
  the image, and the sum of the gradient's magnitudes.
-/
module

public import proofs.«01_k».proof.Proof.Consts
public import Mathlib.Analysis.SpecialFunctions.Pow.Real

@[expose] public section

noncomputable section

namespace Cert.Formula

open Cert.Consts

/-- A map of the image's size. -/
abbrev Map := Fin 512 → Fin 512 → ℝ

/-- A map with two rows and columns of zeros before it and zeros after it. -/
def around (f : Map) (r q : ℕ) : ℝ :=
  if h : (2 ≤ r ∧ r < 514) ∧ (2 ≤ q ∧ q < 514) then f ⟨r - 2, by omega⟩ ⟨q - 2, by omega⟩ else 0

theorem around_left (f : Map) (r q : ℕ) (h : q < 2) : around f r q = 0 := dif_neg (by omega)
theorem around_right (f : Map) (r q : ℕ) (h : 514 ≤ q) : around f r q = 0 := dif_neg (by omega)

/-- The horizontal mask. -/
def maskX : Fin 5 → Fin 5 → ℝ :=
  ![![2, 1, small, -1, -2], ![3, 2, small, -2, -3], ![4, 3, 0, -3, -4], ![3, 2, small, -2, -3], ![2, 1, small, -1, -2]]
/-- The vertical mask. -/
def maskY : Fin 5 → Fin 5 → ℝ :=
  ![![2, 3, 4, 3, 2], ![1, 2, 3, 2, 1], ![small, small, small, small, small], ![-1, -2, -3, -2, -1], ![-2, -3, -4, -3, -2]]

/-- A 5x5 correlation. -/
def corr (g : Fin 5 → Fin 5 → ℝ) (f : Map) (y x : ℕ) : ℝ :=
  ∑ a : Fin 5, ∑ b : Fin 5, around f (y + a.val) (x + b.val) * g a b

/-- The correlation of a combination of maps is the combination of their correlations. -/
theorem corr_sum {n : ℕ} (g : Fin 5 → Fin 5 → ℝ) (f : Fin n → Map) (w : Fin n → ℝ) (y x : ℕ) :
    corr g (fun r q => ∑ c, f c r q * w c) y x = ∑ c, corr g (f c) y x * w c := by
  have hA (r q : ℕ) : around (fun r q => ∑ c, f c r q * w c) r q = ∑ c, around (f c) r q * w c := by
    unfold around
    split
    · rfl
    · simp
  unfold corr
  simp only [hA, Finset.sum_mul]
  rw [Finset.sum_comm (s := (Finset.univ : Finset (Fin n)))]
  refine Finset.sum_congr rfl fun a _ => ?_
  rw [Finset.sum_comm (s := (Finset.univ : Finset (Fin n)))]
  exact Finset.sum_congr rfl fun b _ => Finset.sum_congr rfl fun c _ => by ring

/-- The magnitude of a map's gradient. -/
def magnitude (f : Map) (y x : ℕ) : ℝ :=
  Real.sqrt (corr maskX f y x * corr maskX f y x + corr maskY f y x * corr maskY f y x + floor)

/-- The softmax of the scaled scores `x`. -/
def soft (x : Fin 21 → ℝ) (c : Fin 21) : ℝ := Real.exp (1000 * x c) / ∑ k, Real.exp (1000 * x k)

/-- The softmax does not change when one number is taken off all scaled scores. -/
theorem soft_shift (x : Fin 21 → ℝ) (M : ℝ) (c : Fin 21) :
    Real.exp (1000 * x c - M) / ∑ k, Real.exp (1000 * x k - M) = soft x c := by
  unfold soft
  simp only [Real.exp_sub, ← Finset.sum_div]
  rw [div_div_div_cancel_right₀ (Real.exp_ne_zero M)]

/-- The softmax of the foreground classes, weighted. -/
def mix (x : Fin 21 → ℝ) (w : Fin 21 → ℝ) : ℝ := ∑ c : Fin 20, soft x c.succ * w c.succ

/-- Sums of exponentials are positive. -/
theorem sum_exp_pos (e : Fin 21 → ℝ) : 0 < ∑ k, Real.exp (e k) := Finset.sum_pos (fun _ _ => Real.exp_pos _) ⟨0, Finset.mem_univ _⟩

/-- A weighted sum of shifted exponentials over their sum. -/
theorem mix_shift (x w : Fin 21 → ℝ) (M : ℝ) :
    (∑ c : Fin 20, Real.exp (1000 * x c.succ - M) * w c.succ) / (∑ k, Real.exp (1000 * x k - M)) = mix x w := by
  unfold mix
  rw [Finset.sum_div]
  exact Finset.sum_congr rfl fun c _ => by rw [← soft_shift x M, div_mul_eq_mul_div]

/-- The sum over the image's rows, eight at a time. -/
theorem sum_rows (g : ℕ → ℝ) : ∑ k : Fin 64, ∑ i : Fin 8, g (8 * k.val + i.val) = ∑ y : Fin 512, g y.val := by
  rw [← Finset.sum_product', ← (finProdFinEquiv (m := 64) (n := 8)).sum_comp]
  exact Finset.sum_congr rfl fun p _ => by rw [finProdFinEquiv_apply_val, add_comm]

/-- A sum of reals among the extended reals. -/
theorem coe_sum {ι : Type} (s : Finset ι) (g : ι → ℝ) : ∑ i ∈ s, ((g i : ℝ) : EReal) = ((∑ i ∈ s, g i : ℝ) : EReal) :=
  (map_sum (⟨⟨Real.toEReal, EReal.coe_zero⟩, EReal.coe_add⟩ : ℝ →+ EReal) g s).symm

/-- The mean of the gradient's magnitude over all batch entries. -/
def result (X : Fin 4 → Fin 21 → Map) (W : Fin 4 → Fin 21 → ℝ) : ℝ :=
  (∑ n : Fin 4, ∑ y : Fin 512, ∑ x : Fin 512, magnitude (fun r q => mix (fun c => X n c r q) (W n)) y.val x.val) / 1048576

end Cert.Formula

end
-- ==== Proof.SoftAt.lean ====
/-
  The kernel's softmax at a position: of real scores and weights it is the weighted softmax of `Formula.mix`.
-/
module

public import proofs.«01_k».proof.Proof.Body
public import proofs.«01_k».proof.Proof.Formula

@[expose] public section

noncomputable section

namespace Cert.KernelIdeal.Structured

open Idealize.ShloMosaic Idealize.ShloMosaic.TcCoe
open Cert.KernelIdeal Cert.KernelIdeal.Gen Cert.Formula

/-- The maximum of reals is a real. -/
theorem maxV_real (g : Fin 21 → FVec Ideal S16x512 .f32) (j : S16x512.Idx) (x : Fin 21 → ℝ) (hx : ∀ k, g k j = ((x k : ℝ) : EReal)) :
    ∀ (ks : List (Fin 21)) (a b c d : FVec Ideal S16x512 .f32) (ra rb rc rd : ℝ),
      a j = ((ra : ℝ) : EReal) → b j = ((rb : ℝ) : EReal) → c j = ((rc : ℝ) : EReal) → d j = ((rd : ℝ) : EReal) →
      ∃ M : ℝ, maxV g ks a b c d j = ((M : ℝ) : EReal)
  | [], a, b, c, d, ra, rb, rc, rd, ha, hb, hc, hd => by
    refine ⟨max (max rd ra) (max rb rc), ?_⟩
    show max (max (d j) (a j)) (max (b j) (c j)) = _
    rw [ha, hb, hc, hd]
    rfl
  | k :: ks, a, b, c, d, ra, rb, rc, rd, ha, hb, hc, hd =>
    maxV_real g j x hx ks b c d _ rb rc rd (max ra (x k)) hb hc hd (by
      show max (a j) (g k j) = _
      rw [ha, hx]; rfl)

/-- The kernel's exponential of a score. -/
theorem expo_real (m v : FVec Ideal S16x512 .f32) (j : S16x512.Idx) (M x : ℝ) (hm : m j = ((M : ℝ) : EReal)) (hv : v j = ((x : ℝ) : EReal)) :
    expo m v j = ((Real.exp (1000 * x - 1000 * M) : ℝ) : EReal) := by
  show Ideal.exp2 ((v j - m j) * Named.named (F := Ideal) κ "scale" (φ := .f32) 0x44B4563E#32) = _
  rw [IdealRules.named_const.ideal_named_scalar _ _ _ _ rfl, hm, hv, ← EReal.coe_sub, ← EReal.coe_mul, Ideal.exp2_coe]
  refine congrArg _ ?_
  show (2 : ℝ) ^ ((x - M) * (1000 * (Real.log 2)⁻¹)) = _
  rw [Real.rpow_def_of_pos two_pos]
  congr 1
  have h : Real.log 2 ≠ 0 := Real.log_ne_zero_of_pos_of_ne_one two_pos (by norm_num)
  field_simp

/-- The running sums end as a quotient of two sums. -/
theorem sumV_real (g : Fin 21 → FVec Ideal S16x512 .f32) (w : Fin 21 → Elt Ideal .f32) (m : FVec Ideal S16x512 .f32) (j : S16x512.Idx)
    (e r : Fin 21 → ℝ) (he : ∀ k, expo m (g k) j = ((e k : ℝ) : EReal)) (ks : List (Fin 21)) (hw : ∀ k ∈ ks, w k = ((r k : ℝ) : EReal)) :
    ∀ (dA dB nA nB : FVec Ideal S16x512 .f32) (a b p q : ℝ),
      dA j = ((a : ℝ) : EReal) → dB j = ((b : ℝ) : EReal) → nA j = ((p : ℝ) : EReal) → nB j = ((q : ℝ) : EReal) →
      a + b + (ks.map e).sum ≠ 0 →
      sumV g w m ks dA dB nA nB j = (((p + q + (ks.map fun k => e k * r k).sum) / (a + b + (ks.map e).sum) : ℝ) : EReal) := by
  induction ks with
  | nil =>
    intro dA dB nA nB a b p q ha hb hp hq h
    show Ideal.div (nB j + nA j) (dB j + dA j) = _
    simp only [List.map_nil, List.sum_nil, add_zero] at h ⊢
    rw [ha, hb, hp, hq, ← EReal.coe_add, ← EReal.coe_add, Ideal.div_coe (by rwa [add_comm]), ← EReal.coe_mul]
    congr 1
    rw [mul_one_div, add_comm q, add_comm b]
  | cons k ks ih =>
    intro dA dB nA nB a b p q ha hb hp hq h
    simp only [List.map_cons, List.sum_cons] at h ⊢
    have hwk := hw k List.mem_cons_self
    have := ih (fun k' hk' => hw k' (List.mem_cons_of_mem _ hk')) dB (addf dA (expo m (g k))) nB (addf nA (mulf (expo m (g k)) (broadcast S16x512 (w k))))
      b (a + e k) q (p + e k * r k) hb
      (by show dA j + expo m (g k) j = _; rw [ha, he, ← EReal.coe_add]) hq
      (by show nA j + expo m (g k) j * w k = _; rw [hp, he, hwk, ← EReal.coe_mul, ← EReal.coe_add])
      (by rw [show b + (a + e k) + (ks.map e).sum = a + b + (e k + (ks.map e).sum) by ring]; exact h)
    refine this.trans (congrArg _ ?_)
    congr 1 <;> ring

/-- The kernel's softmax of one band, at a position. -/
theorem softV_real (g : Fin 21 → FVec Ideal S16x512 .f32) (w : Fin 21 → Elt Ideal .f32) (j : S16x512.Idx) (x r : Fin 21 → ℝ)
    (hx : ∀ k, g k j = ((x k : ℝ) : EReal)) (hw : ∀ k : Fin 20, w k.succ = ((r k.succ : ℝ) : EReal)) :
    softV g w j = ((mix x r : ℝ) : EReal) := by
  obtain ⟨M, hM⟩ : ∃ M : ℝ, topV g j = ((M : ℝ) : EReal) := maxV_real g j x hx _ _ _ _ _ _ _ _ _ (hx 0) (hx 1) (hx 2) (hx 3)
  have he (k : Fin 21) : expo (topV g) (g k) j = ((Real.exp (1000 * x k - 1000 * M) : ℝ) : EReal) := expo_real _ _ j M (x k) hM (hx k)
  have hs : Real.exp (1000 * x 1 - 1000 * M) + (Real.exp (1000 * x 0 - 1000 * M) + Real.exp (1000 * x 2 - 1000 * M))
      + ([3, 4, 5, 6, 7, 8, 9, 10, 11, 12, 13, 14, 15, 16, 17, 18, 19, 20].map fun k => Real.exp (1000 * x k - 1000 * M)).sum
      = ∑ k, Real.exp (1000 * x k - 1000 * M) := by
    simp only [Fin.sum_univ_succ, List.map_cons, List.map_nil, List.sum_cons, List.sum_nil, Finset.univ_eq_empty, Finset.sum_empty]
    simp [Fin.succ]
    ring
  have hn : Real.exp (1000 * x 1 - 1000 * M) * r 1 + Real.exp (1000 * x 2 - 1000 * M) * r 2
      + ([3, 4, 5, 6, 7, 8, 9, 10, 11, 12, 13, 14, 15, 16, 17, 18, 19, 20].map fun k => Real.exp (1000 * x k - 1000 * M) * r k).sum
      = ∑ c : Fin 20, Real.exp (1000 * x c.succ - 1000 * M) * r c.succ := by
    simp only [Fin.sum_univ_succ, List.map_cons, List.map_nil, List.sum_cons, List.sum_nil, Finset.univ_eq_empty, Finset.sum_empty]
    simp [Fin.succ]
    ring
  refine (sumV_real g w (topV g) j (fun k => Real.exp (1000 * x k - 1000 * M)) r he _ ?_ _ _ _ _ _ _ _ _ (he 1)
    (by show expo _ (g 0) j + expo _ (g 2) j = _; rw [he, he, ← EReal.coe_add])
    (by show expo _ (g 1) j * w 1 = _; rw [he, show w 1 = _ from hw 0, ← EReal.coe_mul])
    (by show expo _ (g 2) j * w 2 = _; rw [he, show w 2 = _ from hw 1, ← EReal.coe_mul]) ?_).trans (congrArg _ ?_)
  · intro k hk
    obtain ⟨c, rfl⟩ : ∃ c : Fin 20, k = c.succ := ⟨k.pred (by rintro rfl; revert hk; decide), by simp⟩
    exact hw c
  · rw [hs]; exact (sum_exp_pos fun k => 1000 * x k - 1000 * M).ne'
  · have e1 : (Fin.succ 0 : Fin 21) = 1 := rfl
    have e2 : (Fin.succ 1 : Fin 21) = 2 := rfl
    simp only [e1, e2]
    rw [hs, hn, mix_shift]

end Cert.KernelIdeal.Structured

end
-- ==== Proof.GradAt.lean ====
/-
  The kernel's gradients at a position: of a scratch that holds a map of reals with zeros around it they are the map's two
  correlations.
-/
module

public import proofs.«01_k».proof.Proof.Body
public import proofs.«01_k».proof.Proof.Formula
public import Idealize.ShloMosaic.Lib.Pointwise

@[expose] public section

noncomputable section

namespace Cert.KernelIdeal.Structured

open Idealize.ShloMosaic Idealize.ShloMosaic.TcCoe
open Cert.KernelIdeal Cert.KernelIdeal.Gen Cert.Formula Cert.Consts

/-- Some rows hold the numbers `h`, whose columns are counted from two before the image's first. -/
def Holds {n : ℕ} (v : (⟨2, ![n, 512]⟩ : Shape).Idx → EReal) (h : ℕ → ℕ → ℝ) : Prop :=
  ∀ (i : Fin n) (x : Fin 512), v (ix2 i x) = ((h i.val (x.val + 2) : ℝ) : EReal)

/-- The numbers outside the image's columns are zeros. -/
def Outside (h : ℕ → ℕ → ℝ) : Prop := ∀ r q, q < 2 ∨ 514 ≤ q → h r q = 0

/-- Rows shifted to the right with zeros before them. -/
theorem right_at {n : ℕ} (v : (⟨2, ![n, 512]⟩ : Shape).Idx → EReal) (h : ℕ → ℕ → ℝ) (hv : Holds v h) (ho : Outside h) (i : Fin n) (x : Fin 512)
    (d : ℕ) (hd : d ≤ 2) : (if hx : x.val < d then (0 : EReal) else v (ix2 i ⟨x.val - d, by omega⟩)) = ((h i.val (x.val + (2 - d)) : ℝ) : EReal) := by
  split
  · rw [ho _ _ (by omega)]; rfl
  · rw [hv]; congr 2; show x.val - d + 2 = _; omega

/-- Rows shifted to the left with zeros after them. -/
theorem left_at {n : ℕ} (v : (⟨2, ![n, 512]⟩ : Shape).Idx → EReal) (h : ℕ → ℕ → ℝ) (hv : Holds v h) (ho : Outside h) (i : Fin n) (x : Fin 512)
    (d : ℕ) (hd : d ≤ 2) : (if hx : x.val < 512 - d then v (ix2 i ⟨d + x.val, by omega⟩) else (0 : EReal)) = ((h i.val (x.val + (2 + d)) : ℝ) : EReal) := by
  split
  · rw [hv]; congr 2; show d + x.val + 2 = _; omega
  · rw [ho _ _ (by omega)]; rfl

theorem shift8R2_at (v : FVec Ideal S8x512 .f32) (h : ℕ → ℕ → ℝ) (hv : Holds v h) (ho : Outside h) (i : Fin 8) (x : Fin 512) :
    shift8R2 v (ix2 i x) = ((h i.val (x.val + 0) : ℝ) : EReal) := by
  pointwise [shift8R2]
  exact right_at v h hv ho i x 2 (by omega)
theorem shift8R1_at (v : FVec Ideal S8x512 .f32) (h : ℕ → ℕ → ℝ) (hv : Holds v h) (ho : Outside h) (i : Fin 8) (x : Fin 512) :
    shift8R1 v (ix2 i x) = ((h i.val (x.val + 1) : ℝ) : EReal) := by
  pointwise [shift8R1]
  exact right_at v h hv ho i x 1 (by omega)
theorem shift8L1_at (v : FVec Ideal S8x512 .f32) (h : ℕ → ℕ → ℝ) (hv : Holds v h) (ho : Outside h) (i : Fin 8) (x : Fin 512) :
    shift8L1 v (ix2 i x) = ((h i.val (x.val + 3) : ℝ) : EReal) := by
  pointwise [shift8L1]
  exact left_at v h hv ho i x 1 (by omega)
theorem shift8L2_at (v : FVec Ideal S8x512 .f32) (h : ℕ → ℕ → ℝ) (hv : Holds v h) (ho : Outside h) (i : Fin 8) (x : Fin 512) :
    shift8L2 v (ix2 i x) = ((h i.val (x.val + 4) : ℝ) : EReal) := by
  pointwise [shift8L2]
  exact left_at v h hv ho i x 2 (by omega)
theorem shift12R2_at (v : FVec Ideal S12x512 .f32) (h : ℕ → ℕ → ℝ) (hv : Holds v h) (ho : Outside h) (i : Fin 12) (x : Fin 512) :
    shift12R2 v (ix2 i x) = ((h i.val (x.val + 0) : ℝ) : EReal) := by
  pointwise [shift12R2]
  exact right_at v h hv ho i x 2 (by omega)
theorem shift12R1_at (v : FVec Ideal S12x512 .f32) (h : ℕ → ℕ → ℝ) (hv : Holds v h) (ho : Outside h) (i : Fin 12) (x : Fin 512) :
    shift12R1 v (ix2 i x) = ((h i.val (x.val + 1) : ℝ) : EReal) := by
  pointwise [shift12R1]
  exact right_at v h hv ho i x 1 (by omega)
theorem shift12L1_at (v : FVec Ideal S12x512 .f32) (h : ℕ → ℕ → ℝ) (hv : Holds v h) (ho : Outside h) (i : Fin 12) (x : Fin 512) :
    shift12L1 v (ix2 i x) = ((h i.val (x.val + 3) : ℝ) : EReal) := by
  pointwise [shift12L1]
  exact left_at v h hv ho i x 1 (by omega)
theorem shift12L2_at (v : FVec Ideal S12x512 .f32) (h : ℕ → ℕ → ℝ) (hv : Holds v h) (ho : Outside h) (i : Fin 12) (x : Fin 512) :
    shift12L2 v (ix2 i x) = ((h i.val (x.val + 4) : ℝ) : EReal) := by
  pointwise [shift12L2]
  exact left_at v h hv ho i x 2 (by omega)

/-- The two sums of rows that the horizontal gradient shifts by one column and by two. -/
def fiveX (f : Map) (k i q : ℕ) : ℝ :=
  around f (8 * k + 1 + i) q + around f (8 * k + 2 + i) q + around f (8 * k + 3 + i) q + around f (8 * k + 0 + i) q + around f (8 * k + 4 + i) q
def threeX (f : Map) (k i q : ℕ) : ℝ :=
  around f (8 * k + 1 + i) q + around f (8 * k + 2 + i) q + around f (8 * k + 3 + i) q + around f (8 * k + 2 + i) q

theorem outside_two (f : Map) (k : ℕ) : Outside fun i q => 2 * fiveX f k i q + threeX f k i q := by
  intro r q h
  simp only [fiveX, threeX]
  rcases h with h | h
  · simp only [around_left f _ q h]; ring
  · simp only [around_right f _ q h]; ring
theorem outside_one (f : Map) (k : ℕ) : Outside fun i q => fiveX f k i q + threeX f k i q := by
  intro r q h
  simp only [fiveX, threeX]
  rcases h with h | h
  · simp only [around_left f _ q h]; ring
  · simp only [around_right f _ q h]; ring

theorem val3 : (3 : Fin 5).val = 3 := rfl
theorem val4 : (4 : Fin 5).val = 4 := rfl

/-- The horizontal gradient of a band. -/
theorem gradX_at (f : Map) (k : ℕ) (r : Fin 5 → FVec Ideal S8x512 .f32) (hr : ∀ d, Holds (r d) fun i q => around f (8 * k + d.val + i) q)
    (i : Fin 8) (x : Fin 512) :
    gradX (r 0) (r 1) (r 2) (r 3) (r 4) (ix2 i x) = ((corr maskX f (8 * k + i.val) x.val : ℝ) : EReal) := by
  have h0 := hr 0; have h1 := hr 1; have h2 := hr 2; have h3 := hr 3; have h4 := hr 4
  generalize r 0 = r0 at *; generalize r 1 = r1 at *; generalize r 2 = r2 at *; generalize r 3 = r3 at *; generalize r 4 = r4 at *
  have h5 : Holds (addf (addf (addf (addf r1 r2) r3) r0) r4) (fiveX f k) := fun i x => by
    show r1 (ix2 i x) + r2 (ix2 i x) + r3 (ix2 i x) + r0 (ix2 i x) + r4 (ix2 i x) = _
    rw [h0, h1, h2, h3, h4]; rfl
  have hu : Holds (addf (addf (addf r1 r2) r3) r2) (threeX f k) := fun i x => by
    show r1 (ix2 i x) + r2 (ix2 i x) + r3 (ix2 i x) + r2 (ix2 i x) = _
    rw [h1, h2, h3]; rfl
  have ha : Holds (addf (mulf (broadcast S8x512 (Scalar.ofBits .f32 0x40000000#32 : Ideal .f32)) (addf (addf (addf (addf r1 r2) r3) r0) r4))
      (addf (addf (addf r1 r2) r3) r2)) (fun i q => 2 * fiveX f k i q + threeX f k i q) := fun i x => by
    show Ideal.ofBits .f32 0x40000000#32 * _ + _ = _
    rw [h5, hu, w_two, ← EReal.coe_mul, ← EReal.coe_add]
  have hb : Holds (addf (addf (addf (addf (addf r1 r2) r3) r0) r4) (addf (addf (addf r1 r2) r3) r2)) (fun i q => fiveX f k i q + threeX f k i q) := fun i x => by
    show addf _ _ (ix2 i x) + _ = _
    rw [h5, hu, ← EReal.coe_add]
  unfold gradX
  show shift8R2 _ (ix2 i x) + shift8R1 _ (ix2 i x) + (Ideal.ofBits .f32 0x358637BD#32 * addf _ r4 (ix2 i x) - Ideal.ofBits .f32 0x358637BD#32 * r2 (ix2 i x))
    - shift8L1 _ (ix2 i x) - shift8L2 _ (ix2 i x) = _
  rw [shift8R2_at _ _ ha (outside_two f k), shift8R1_at _ _ hb (outside_one f k), shift8L1_at _ _ hb (outside_one f k),
    shift8L2_at _ _ ha (outside_two f k), h5, h2, w_small]
  simp only [← EReal.coe_mul, ← EReal.coe_add, ← EReal.coe_sub]
  congr 1
  simp only [fiveX, threeX, corr, Fin.sum_univ_five, maskX, Matrix.cons_val, val3, val4, Fin.val_zero, Fin.val_one, Fin.val_two, add_zero,
    Nat.add_right_comm]
  ring

/-- Eight of twelve rows. -/
theorem slice_at (o : ℕ) (ho : o ≤ 4) (v : FVec Ideal S12x512 .f32) (hs : S12x512.Slices ![o, 0] S8x512) (i : Fin 8) (x : Fin 512) :
    extractStridedSlice S8x512 ![o, 0] v hs (ix2 i x) = v (ix2 ⟨o + i.val, by omega⟩ x) := by
  pointwise

/-- Rows of twelve subtracted from each other, at a position. -/
theorem rowsApart_at (h0 h1 t5 : FVec Ideal S12x512 .f32) (s0 : S12x512.Slices ![0, 0] S8x512) (s4 : S12x512.Slices ![4, 0] S8x512)
    (s1 : S12x512.Slices ![1, 0] S8x512) (s3 : S12x512.Slices ![3, 0] S8x512) (s2 : S12x512.Slices ![2, 0] S8x512) (i : Fin 8) (x : Fin 512) :
    addf (subf (addf (subf (extractStridedSlice S8x512 ![0, 0] h0 s0) (extractStridedSlice S8x512 ![4, 0] h0 s4)) (extractStridedSlice S8x512 ![1, 0] h1 s1))
        (extractStridedSlice S8x512 ![3, 0] h1 s3))
      (mulf (broadcast S8x512 (Scalar.ofBits .f32 0x358637BD#32 : Ideal .f32)) (extractStridedSlice S8x512 ![2, 0] t5 s2)) (ix2 i x)
    = h0 (ix2 ⟨0 + i.val, by omega⟩ x) - h0 (ix2 ⟨4 + i.val, by omega⟩ x) + h1 (ix2 ⟨1 + i.val, by omega⟩ x) - h1 (ix2 ⟨3 + i.val, by omega⟩ x)
      + Ideal.ofBits .f32 0x358637BD#32 * t5 (ix2 ⟨2 + i.val, by omega⟩ x) := by
  rw [← slice_at 0 (by omega) h0 s0, ← slice_at 4 (by omega) h0 s4, ← slice_at 1 (by omega) h1 s1, ← slice_at 3 (by omega) h1 s3,
    ← slice_at 2 (by omega) t5 s2]
  rfl

/-- The two sums of columns whose rows the vertical gradient subtracts from each other. -/
def fiveY (f : Map) (r x : ℕ) : ℝ := around f r (x + 1) + around f r (x + 2) + around f r (x + 3) + around f r (x + 0) + around f r (x + 4)
def threeY (f : Map) (r x : ℕ) : ℝ := around f r (x + 1) + around f r (x + 2) + around f r (x + 3) + around f r (x + 2)

theorem outside_around (f : Map) (k : ℕ) : Outside fun i q => around f (8 * k + i) q := by
  intro r q h
  rcases h with h | h
  · exact around_left f _ q h
  · exact around_right f _ q h

/-- The vertical gradient of a band. -/
theorem gradY_at (f : Map) (k : ℕ) (q : FVec Ideal S12x512 .f32) (hq : Holds q fun i q => around f (8 * k + i) q) (i : Fin 8) (x : Fin 512) :
    gradY q (ix2 i x) = ((corr maskY f (8 * k + i.val) x.val : ℝ) : EReal) := by
  have ho := outside_around f k
  have h5 (i : Fin 12) (x : Fin 512) : addf (addf (addf (addf (shift12R1 q) q) (shift12L1 q)) (shift12R2 q)) (shift12L2 q) (ix2 i x)
      = ((fiveY f (8 * k + i.val) x.val : ℝ) : EReal) := by
    show shift12R1 q (ix2 i x) + q (ix2 i x) + shift12L1 q (ix2 i x) + shift12R2 q (ix2 i x) + shift12L2 q (ix2 i x) = _
    rw [shift12R1_at _ _ hq ho, shift12L1_at _ _ hq ho, shift12R2_at _ _ hq ho, shift12L2_at _ _ hq ho, hq]; rfl
  have hu (i : Fin 12) (x : Fin 512) : addf (addf (addf (shift12R1 q) q) (shift12L1 q)) q (ix2 i x) = ((threeY f (8 * k + i.val) x.val : ℝ) : EReal) := by
    show shift12R1 q (ix2 i x) + q (ix2 i x) + shift12L1 q (ix2 i x) + q (ix2 i x) = _
    rw [shift12R1_at _ _ hq ho, shift12L1_at _ _ hq ho, hq]; rfl
  have ha (i : Fin 12) (x : Fin 512) : addf (mulf (broadcast S12x512 (Scalar.ofBits .f32 0x40000000#32 : Ideal .f32))
        (addf (addf (addf (addf (shift12R1 q) q) (shift12L1 q)) (shift12R2 q)) (shift12L2 q)))
      (addf (addf (addf (shift12R1 q) q) (shift12L1 q)) q) (ix2 i x) = ((2 * fiveY f (8 * k + i.val) x.val + threeY f (8 * k + i.val) x.val : ℝ) : EReal) := by
    show Ideal.ofBits .f32 0x40000000#32 * _ + _ = _
    rw [h5, hu, w_two, ← EReal.coe_mul, ← EReal.coe_add]
  have hb (i : Fin 12) (x : Fin 512) : addf (addf (addf (addf (addf (shift12R1 q) q) (shift12L1 q)) (shift12R2 q)) (shift12L2 q))
      (addf (addf (addf (shift12R1 q) q) (shift12L1 q)) q) (ix2 i x) = ((fiveY f (8 * k + i.val) x.val + threeY f (8 * k + i.val) x.val : ℝ) : EReal) := by
    show addf _ _ (ix2 i x) + _ = _
    rw [h5, hu, ← EReal.coe_add]
  unfold gradY
  refine (rowsApart_at _ _ _ _ _ _ _ _ i x).trans ?_
  rw [ha, ha, hb, hb, h5, w_small]
  simp only [← EReal.coe_mul, ← EReal.coe_add, ← EReal.coe_sub]
  congr 1
  simp only [fiveY, threeY, corr, Fin.sum_univ_five, maskY, Matrix.cons_val, val3, val4, Fin.val_zero, Fin.val_one, Fin.val_two, add_zero, zero_add,
    ← Nat.add_assoc, Nat.add_right_comm]
  ring

/-- A scratch that holds a map with zeros around it. -/
def HoldsMap (y : FVec Ideal S520x512 .f32) (f : Map) : Prop :=
  ∀ (r : Fin 520) (x : Fin 512), y (ix2 r x) = ((around f r.val (x.val + 2) : ℝ) : EReal)

theorem rowV_holds (y : FVec Ideal S520x512 .f32) (f : Map) (hy : HoldsMap y f) (k : Fin 64) (d : Fin 5) :
    Holds (rowV y k d) fun i q => around f (8 * k.val + d.val + i) q := by
  intro i x
  refine Eq.trans (congrArg y ?_) (hy ⟨8 * k.val + d.val + i.val, by omega⟩ x)
  funext a; fin_cases a
  · exact Fin.ext (by show 8 * k.val + d.val + 1 * i.val = 8 * k.val + d.val + i.val; omega)
  · exact Fin.ext (by show 0 + 1 * x.val = x.val; omega)

theorem rowsV_holds (y : FVec Ideal S520x512 .f32) (f : Map) (hy : HoldsMap y f) (k : Fin 64) :
    Holds (rowsV y k) fun i q => around f (8 * k.val + i) q := by
  intro i x
  refine Eq.trans (congrArg y ?_) (hy ⟨8 * k.val + i.val, by omega⟩ x)
  funext a; fin_cases a
  · exact Fin.ext (by show 8 * k.val + 1 * i.val = 8 * k.val + i.val; omega)
  · exact Fin.ext (by show 0 + 1 * x.val = x.val; omega)

/-- The magnitudes on a band. -/
theorem edgeV_at (y : FVec Ideal S520x512 .f32) (f : Map) (hy : HoldsMap y f) (k : Fin 64) (i : Fin 8) (x : Fin 512) :
    edgeV y k (ix2 i x) = ((magnitude f (8 * k.val + i.val) x.val : ℝ) : EReal) := by
  have hX := gradX_at f k.val (fun d => rowV y k d) (fun d => rowV_holds y f hy k d) i x
  have hY := gradY_at f k.val _ (rowsV_holds y f hy k) i x
  unfold edgeV
  generalize gradX (rowV y k 0) (rowV y k 1) (rowV y k 2) (rowV y k 3) (rowV y k 4) = gx at *
  generalize gradY (rowsV y k) = gy at *
  show Ideal.sqrt (gx (ix2 i x) * gx (ix2 i x) + gy (ix2 i x) * gy (ix2 i x) + Ideal.ofBits .f32 0x322BCC77#32) = _
  rw [hX, hY, w_floor]
  simp only [← EReal.coe_mul, ← EReal.coe_add]
  rw [Ideal.sqrt_coe, if_neg (not_lt.mpr (add_nonneg (add_nonneg (mul_self_nonneg _) (mul_self_nonneg _)) floor_nonneg))]
  rfl

/-- The bands' magnitudes added up, at a position. -/
theorem edgesV_at (y : FVec Ideal S520x512 .f32) (f : Map) (hy : HoldsMap y f) (i : Fin 8) (x : Fin 512) :
    ∀ (ks : List (Fin 64)) (acc : FVec Ideal S8x512 .f32) (a : ℝ), acc (ix2 i x) = ((a : ℝ) : EReal) →
      edgesV y ks acc (ix2 i x) = ((a + (ks.map fun k => magnitude f (8 * k.val + i.val) x.val).sum : ℝ) : EReal)
  | [], acc, a, h => by simpa [edgesV] using h
  | k :: ks, acc, a, h => by
    refine (edgesV_at y f hy i x ks (addf acc (edgeV y k)) (a + magnitude f (8 * k.val + i.val) x.val) ?_).trans ?_
    · show acc (ix2 i x) + edgeV y k (ix2 i x) = _
      rw [h, edgeV_at y f hy, ← EReal.coe_add]
    · rw [List.map_cons, List.sum_cons, add_assoc]

theorem allBands_eq : (0 : Fin 64) :: laterBands = List.finRange 64 := by decide

theorem allEdgesV_at (y : FVec Ideal S520x512 .f32) (f : Map) (hy : HoldsMap y f) (i : Fin 8) (x : Fin 512) :
    allEdgesV y (ix2 i x) = ((∑ k : Fin 64, magnitude f (8 * k.val + i.val) x.val : ℝ) : EReal) := by
  refine (edgesV_at y f hy i x laterBands (edgeV y 0) _ (edgeV_at y f hy 0 i x)).trans (congrArg _ ?_)
  rw [← List.sum_ofFn, List.ofFn_eq_map, ← allBands_eq, List.map_cons, List.sum_cons]

/-- The sum of a band's entries. -/
theorem total_sum (v : FVec Ideal S8x512 .f32) : total v = ∑ i : Fin 8, ∑ x : Fin 512, v (ix2 i x) := by
  pointwise [total]

/-- The sum of all magnitudes. -/
theorem total_at (y : FVec Ideal S520x512 .f32) (f : Map) (hy : HoldsMap y f) :
    total (allEdgesV y) = ((∑ r : Fin 512, ∑ x : Fin 512, magnitude f r.val x.val : ℝ) : EReal) := by
  rw [total_sum]
  simp only [allEdgesV_at y f hy, coe_sum]
  congr 1
  rw [← sum_rows fun r => ∑ x : Fin 512, magnitude f r x.val, Finset.sum_comm (s := (Finset.univ : Finset (Fin 64)))]
  exact Finset.sum_congr rfl fun i _ => Finset.sum_comm

end Cert.KernelIdeal.Structured

end
-- ==== Proof.Result.lean ====
/-
  The idealized kernel's result of real arguments: the mean of the magnitudes.
-/
module

public import proofs.«01_k».proof.Proof.Value
public import proofs.«01_k».proof.Proof.SoftAt
public import proofs.«01_k».proof.Proof.GradAt

@[expose] public section

noncomputable section

namespace Cert.KernelIdeal.Structured

open Idealize.ShloMosaic Idealize.ShloMosaic.TcCoe
open Cert.KernelIdeal Cert.KernelIdeal.Gen Cert.Formula Cert.Consts

theorem at16_eq (r : Fin 16) (x : Fin 512) : at16 r x = ix2 r x := by
  funext a; fin_cases a <;> rfl

theorem band_cast (v : FVec Ideal S1x1x16x512 .f32) (h : S1x1x16x512.ShapeCasts S16x512) (r : Fin 16) (q : Fin 512) :
    shapeCast S16x512 v h (ix2 r q) = v (ix4 0 0 r q) := by
  pointwise

/-- A band of a class, at a position. -/
theorem segV_at (x : FVec Ideal S1x21x256x512 .f32) (ch : Fin 16) (k : Fin 21) (r : Fin 16) (q : Fin 512) :
    segV x ch k (ix2 r q) = x (ix4 0 k ⟨16 * ch.val + r.val, by omega⟩ q) := by
  refine (band_cast _ _ r q).trans ?_
  refine congrArg x (funext fun a => Fin.ext ?_)
  match a with
  | ⟨0, _⟩ => rfl
  | ⟨1, _⟩ => rfl
  | ⟨2, _⟩ => show 16 * ch.val + 1 * r.val = 16 * ch.val + r.val; omega
  | ⟨3, _⟩ => show 0 + 1 * q.val = q.val; omega

/-- A weight. -/
theorem wgtV_at (w : FVec Ideal S4x21 .f32) (n : Fin 4) (rb : Fin 2) (k : Fin 21) : wgtV (pt n rb) w k = w (ix2 n k) := by
  refine congrArg w (funext fun a => Fin.ext ?_)
  match a with
  | ⟨0, _⟩ =>
    show (Scalar.indexCast (BitVec.ofNat 32 n.val)).toNat + 1 * 0 = n.val
    revert n; decide
  | ⟨1, _⟩ => rfl

variable (m : (ℓ : Loc nD τ sig) → Buf (Elt Ideal) ℓ)

/-- The scores are the reals `X`. -/
def Scores (c : Dev nD) (X : Fin 4 → Fin 21 → Map) : Prop :=
  ∀ n k y x, m ((c.tc : Thread nD τ).loc main_arg0) (ix4 n k y x) = ((X n k y x : ℝ) : EReal)

/-- The scores are the reals `X`, and the weights of the foreground classes the reals `W`. -/
structure Reals (c : Dev nD) (X : Fin 4 → Fin 21 → Map) (W : Fin 4 → Fin 21 → ℝ) : Prop where
  scores : Scores m c X
  weights : ∀ n (k : Fin 20), m ((c.tc : Thread nD τ).loc main_arg1) (ix2 n k.succ) = ((W n k.succ : ℝ) : EReal)

variable {m} {c : Dev nD} {X : Fin 4 → Fin 21 → Map} {W : Fin 4 → Fin 21 → ℝ}

/-- The weighted softmax of batch entry `n`. -/
abbrev mixed (X : Fin 4 → Fin 21 → Map) (W : Fin 4 → Fin 21 → ℝ) (n : Fin 4) : Map := fun r q => mix (fun k => X n k r q) (W n)

/-- A row of a block. -/
theorem bandV_at (h : Reals m c X W) (n : Fin 4) (rb : Fin 2) (ch r : Fin 16) (q : Fin 512) :
    bandV (pt n rb) (tab m c) (img m c n rb) ch (at16 r q)
      = ((mixed X W n ⟨256 * rb.val + (16 * ch.val + r.val), by omega⟩ q : ℝ) : EReal) := by
  rw [at16_eq]
  refine softV_real _ _ _ (fun k => X n k ⟨256 * rb.val + (16 * ch.val + r.val), by omega⟩ q) (W n) (fun k => ?_) fun k => ?_
  · rw [segV_at, img_at]; exact h.scores ..
  · rw [wgtV_at, tab_at]; exact h.weights ..

/-- The scratch holds the weighted softmax with zeros around it. -/
theorem full_holds (h : Reals m c X W) (n : Fin 4) : HoldsMap (full m c n) (mixed X W n) := by
  intro r q
  have hq : 2 ≤ q.val + 2 ∧ q.val + 2 < 514 := by omega
  unfold full fullV around
  show (if 2 ≤ r.val ∧ r.val < 514 then
      if r.val < 258 then bandV (pt n 0) (tab m c) (img m c n 0) (Fin.ofNat 16 ((r.val - 2) % 256 / 16)) (at16 (Fin.ofNat 16 ((r.val - 2) % 16)) q)
      else bandV (pt n 1) (tab m c) (img m c n 1) (Fin.ofNat 16 ((r.val - 2) % 256 / 16)) (at16 (Fin.ofNat 16 ((r.val - 2) % 16)) q)
    else zero32) = _
  by_cases hr : 2 ≤ r.val ∧ r.val < 514
  · rw [if_pos hr, dif_pos ⟨hr, hq⟩]
    split
    · rw [bandV_at h]
      congr 2 <;> refine Fin.ext ?_ <;> simp only [Fin.ofNat, Fin.val_zero, Fin.val_one] <;> omega
    · rw [bandV_at h]
      congr 2 <;> refine Fin.ext ?_ <;> simp only [Fin.ofNat, Fin.val_zero, Fin.val_one] <;> omega
  · rw [if_neg hr, dif_neg (fun h' => hr h'.1)]
    exact w_zero

/-- The magnitudes of batch entry `n` added up. -/
abbrev summed (X : Fin 4 → Fin 21 → Map) (W : Fin 4 → Fin 21 → ℝ) (n : Fin 4) : ℝ :=
  ∑ y : Fin 512, ∑ x : Fin 512, magnitude (mixed X W n) y.val x.val

/-- After the last batch entry the four sums are added up. -/
theorem out_sum (j : S1x1.Idx) : outAt m c 3 j
    = total (allEdgesV (full m c 0)) + total (allEdgesV (full m c 1)) + total (allEdgesV (full m c 2)) + total (allEdgesV (full m c 3)) := by
  have hs (k : ℕ) (n : Fin 4) (hn : Fin.ofNat 4 (k + 1) = n) (h0 : n ≠ 0) (j : S1x1.Idx) :
      outAt m c (k + 1) j = outAt m c k j + total (allEdgesV (full m c n)) := by
    show outV (Fin.ofNat 4 (k + 1)) (full m c (Fin.ofNat 4 (k + 1))) (outAt m c k) j = _
    rw [hn, outV_pos _ _ n h0]
    show shapeCast S1x1 (outAt m c k) _ j + total (allEdgesV (full m c n)) = _
    rw [shapeCast_self]
  rw [hs 2 3 rfl (by decide), hs 1 2 rfl (by decide), hs 0 1 rfl (by decide)]
  rfl

/-- After the last batch entry all magnitudes are added up. -/
theorem out_last (h : Reals m c X W) (j : S1x1.Idx) : outAt m c 3 j = ((∑ n, summed X W n : ℝ) : EReal) := by
  rw [out_sum]
  simp only [total_at _ _ (full_holds h _), ← EReal.coe_add, Fin.sum_univ_four]

/-- The kernel's result. -/
theorem resultAt_real (h : Reals m c X W) : resultAt m c = fun _ => ((result X W : ℝ) : EReal) := by
  funext j
  unfold resultAt
  show Ideal.div (shapeCast S_ (outAt m c 3) _ j) (Ideal.ofBits .f32 0x49800000#32) = _
  rw [w_count, Ideal.div_coe (by norm_num)]
  unfold shapeCast
  rw [out_last h, ← EReal.coe_mul, mul_one_div]
  rfl

end Cert.KernelIdeal.Structured

end
-- ==== Proof.Infinite.lean ====
/-
  Infinities among the extended reals, where the sum of opposite infinities is an infinity as well.
-/
module

public import proofs.«01_k».proof.Proof.Formula
public import Idealize.ShloMosaic.Lib.Pointwise

@[expose] public section

noncomputable section

namespace Cert.Infinite

open Idealize.ShloMosaic Cert.Formula Cert.Consts

/-- An infinity. -/
def Inf (a : EReal) : Prop := a = ⊤ ∨ a = ⊥

theorem real_or (a : EReal) : (((a.toReal : ℝ) : EReal) = a) ∨ Inf a := by
  by_cases h : Inf a
  · exact Or.inr h
  · exact Or.inl (EReal.coe_toReal (fun e => h (Or.inl e)) (fun e => h (Or.inr e)))

theorem Inf.add_left {a : EReal} (h : Inf a) (b : EReal) : Inf (a + b) := by
  rcases h with rfl | rfl
  · by_cases hb : b = ⊥
    · right; rw [hb, EReal.add_bot]
    · left; exact EReal.top_add_of_ne_bot hb
  · right; exact EReal.bot_add b

theorem Inf.add_right {a : EReal} (h : Inf a) (b : EReal) : Inf (b + a) := add_comm a b ▸ h.add_left b

theorem Inf.mul_left {a : EReal} (h : Inf a) {r : ℝ} (hr : 0 < r) : Inf (((r : ℝ) : EReal) * a) := by
  rcases h with rfl | rfl
  · left; exact EReal.coe_mul_top_of_pos hr
  · right; exact EReal.coe_mul_bot_of_pos hr

theorem Inf.mul_right {a : EReal} (h : Inf a) {r : ℝ} (hr : 0 < r) : Inf (a * ((r : ℝ) : EReal)) := mul_comm ((r : ℝ) : EReal) a ▸ h.mul_left hr

theorem Inf.sq {a : EReal} (h : Inf a) : a * a = ⊤ := by
  rcases h with rfl | rfl
  · exact EReal.top_mul_top
  · exact EReal.bot_mul_bot

theorem Inf.sum {ι : Type} [DecidableEq ι] (s : Finset ι) (f : ι → EReal) (i : ι) (hi : i ∈ s) (h : Inf (f i)) : Inf (∑ k ∈ s, f k) :=
  Finset.add_sum_erase s f hi ▸ h.add_left _

theorem sq_nonneg (a : EReal) : 0 ≤ a * a := by
  induction a with
  | bot => rw [EReal.bot_mul_bot]; exact le_top
  | top => rw [EReal.top_mul_top]; exact le_top
  | coe r => rw [← EReal.coe_mul]; exact EReal.coe_nonneg.2 (mul_self_nonneg r)

theorem top_add {a : EReal} (h : 0 ≤ a) : ⊤ + a = ⊤ := EReal.top_add_of_ne_bot (fun e => absurd (e ▸ h) (by simp))

theorem sum_top {ι : Type} [DecidableEq ι] (s : Finset ι) (f : ι → EReal) (hf : ∀ k, 0 ≤ f k) (i : ι) (hi : i ∈ s) (h : f i = ⊤) :
    ∑ k ∈ s, f k = ⊤ := by
  rw [← Finset.add_sum_erase s f hi, h]
  exact top_add (Finset.sum_nonneg fun k _ => hf k)

theorem sqrt_nonneg {a : EReal} (h : 0 ≤ a) : 0 ≤ Ideal.sqrt a := by
  induction a with
  | bot => exact absurd h (by simp)
  | top => exact le_top
  | coe r =>
    rw [Ideal.sqrt_coe, if_neg (not_lt.mpr (EReal.coe_nonneg.1 h))]
    exact EReal.coe_nonneg.2 (Real.sqrt_nonneg r)

theorem word_floor_nonneg : 0 ≤ Ideal.ofBits .f32 0x322BCC77#32 := by rw [w_floor]; exact EReal.coe_nonneg.2 floor_nonneg

/-- The mean of an infinite sum. -/
theorem mean_top : Ideal.div ⊤ (Ideal.ofBits .f32 0x49800000#32) = ⊤ := by
  rw [w_count, Ideal.div_coe (by norm_num)]
  exact EReal.top_mul_coe_of_pos (by norm_num)

theorem small_pos : 0 < small := by unfold small; positivity

theorem soft_pos (x : Fin 21 → ℝ) (c : Fin 21) : 0 < soft x c := div_pos (Real.exp_pos _) (sum_exp_pos _)

/-- The upper three rows of the vertical mask are positive. -/
theorem maskY_upper (a b : Fin 5) (ha : a.val < 3) : 0 < maskY a b := by
  have h := small_pos
  fin_cases a <;> fin_cases b <;> first
    | exact absurd ha (by decide)
    | exact h
    | exact one_pos
    | exact two_pos
    | exact three_pos
    | exact four_pos

/-- On the image's last row the vertical correlation of a positive map is positive: the mask's lower rows meet zeros. -/
theorem corr_last_pos (f : Map) (hf : ∀ r q, 0 < f r q) (x : Fin 512) : 0 < corr maskY f 511 x.val := by
  have hn (r q : ℕ) : 0 ≤ around f r q := by
    unfold around
    split
    · exact (hf _ _).le
    · exact le_rfl
  have ht (a b : Fin 5) : 0 ≤ around f (511 + a.val) (x.val + b.val) * maskY a b := by
    by_cases ha : a.val < 3
    · exact mul_nonneg (hn _ _) (maskY_upper a b ha).le
    · rw [show around f (511 + a.val) (x.val + b.val) = 0 from dif_neg (by omega), zero_mul]
  refine Finset.sum_pos' (fun a _ => Finset.sum_nonneg fun b _ => ht a b) ⟨2, Finset.mem_univ _, ?_⟩
  refine Finset.sum_pos' (fun b _ => ht 2 b) ⟨2, Finset.mem_univ _, mul_pos ?_ (maskY_upper 2 2 (by decide))⟩
  have h2 : (2 : Fin 5).val = 2 := rfl
  rw [h2, show around f (511 + 2) (x.val + 2) = _ from dif_pos (by omega)]
  exact hf _ _

end Cert.Infinite

end
-- ==== Proof.ResultInf.lean ====
/-
  The idealized kernel's result where a foreground class has an infinite weight: infinity.
-/
module

public import proofs.«01_k».proof.Proof.Result
public import proofs.«01_k».proof.Proof.Infinite

@[expose] public section

noncomputable section

namespace Cert.KernelIdeal.Structured

open Idealize.ShloMosaic Idealize.ShloMosaic.TcCoe
open Cert.KernelIdeal Cert.KernelIdeal.Gen Cert.Formula Cert.Consts Cert.Infinite

/-! ## The softmax -/

/-- The running sums end as an infinity when one of the weighted terms is one. -/
theorem sumV_inf (g : Fin 21 → FVec Ideal S16x512 .f32) (w : Fin 21 → Elt Ideal .f32) (m : FVec Ideal S16x512 .f32) (j : S16x512.Idx)
    (e : Fin 21 → ℝ) (h0 : ∀ k, 0 < e k) (he : ∀ k, expo m (g k) j = ((e k : ℝ) : EReal)) :
    ∀ (ks : List (Fin 21)) (dA dB nA nB : FVec Ideal S16x512 .f32) (a b : ℝ), 0 < a → 0 < b →
      dA j = ((a : ℝ) : EReal) → dB j = ((b : ℝ) : EReal) → (Inf (nA j) ∨ Inf (nB j) ∨ ∃ k ∈ ks, Inf (w k)) → Inf (sumV g w m ks dA dB nA nB j)
  | [], dA, dB, nA, nB, a, b, ha, hb, hA, hB, h => by
    show Inf (Ideal.div (nB j + nA j) (dB j + dA j))
    rw [hA, hB, ← EReal.coe_add, Ideal.div_coe (by positivity)]
    refine Inf.mul_right ?_ (by positivity)
    rcases h with h | h | ⟨k, hk, _⟩
    · exact h.add_right _
    · exact h.add_left _
    · exact absurd hk (List.not_mem_nil)
  | k :: ks, dA, dB, nA, nB, a, b, ha, hb, hA, hB, h => by
    refine sumV_inf g w m j e h0 he ks dB _ nB _ b (a + e k) hb (add_pos ha (h0 k)) hB
      (by show dA j + expo m (g k) j = _; rw [hA, he, ← EReal.coe_add]) ?_
    have hn : addf nA (mulf (expo m (g k)) (broadcast S16x512 (w k))) j = nA j + ((e k : ℝ) : EReal) * w k := by
      show nA j + expo m (g k) j * w k = _
      rw [he]
    rw [hn]
    rcases h with h | h | ⟨k', hk, h⟩
    · exact Or.inr (Or.inl (h.add_left _))
    · exact Or.inl h
    · rcases List.mem_cons.1 hk with rfl | hk
      · exact Or.inr (Or.inl ((h.mul_left (h0 _)).add_right _))
      · exact Or.inr (Or.inr ⟨k', hk, h⟩)

theorem laterClasses (c : Fin 20) : c.succ = 1 ∨ c.succ = 2 ∨
    c.succ ∈ ([3, 4, 5, 6, 7, 8, 9, 10, 11, 12, 13, 14, 15, 16, 17, 18, 19, 20] : List (Fin 21)) := by
  revert c; decide

/-- The kernel's softmax of one band, at a position. -/
theorem softV_inf (g : Fin 21 → FVec Ideal S16x512 .f32) (w : Fin 21 → Elt Ideal .f32) (j : S16x512.Idx) (x : Fin 21 → ℝ)
    (hx : ∀ k, g k j = ((x k : ℝ) : EReal)) (c : Fin 20) (hc : Inf (w c.succ)) : Inf (softV g w j) := by
  obtain ⟨M, hM⟩ : ∃ M : ℝ, topV g j = ((M : ℝ) : EReal) := maxV_real g j x hx _ _ _ _ _ _ _ _ _ (hx 0) (hx 1) (hx 2) (hx 3)
  have he (k : Fin 21) : expo (topV g) (g k) j = ((Real.exp (1000 * x k - 1000 * M) : ℝ) : EReal) := expo_real _ _ j M (x k) hM (hx k)
  have hp (k : Fin 21) : 0 < Real.exp (1000 * x k - 1000 * M) := Real.exp_pos _
  have hn (k : Fin 21) (hk : Inf (w k)) : Inf (mulf (expo (topV g) (g k)) (broadcast S16x512 (w k)) j) := by
    show Inf (expo (topV g) (g k) j * w k)
    rw [he]
    exact hk.mul_left (hp k)
  refine sumV_inf g w (topV g) j _ hp he _ _ _ _ _ _ _ (hp 1) (add_pos (hp 0) (hp 2)) (he 1)
    (by show expo _ (g 0) j + expo _ (g 2) j = _; rw [he, he, ← EReal.coe_add]) ?_
  rcases laterClasses c with h | h | h
  · exact Or.inl (hn 1 (h ▸ hc))
  · exact Or.inr (Or.inl (hn 2 (h ▸ hc)))
  · exact Or.inr (Or.inr ⟨_, h, hc⟩)

/-! ## The gradients -/

/-- The vertical gradient is infinite at an infinite entry of the map. -/
theorem gradY_inf (q : FVec Ideal S12x512 .f32) (i : Fin 8) (x : Fin 512) (h : Inf (q (ix2 ⟨2 + i.val, by omega⟩ x))) : Inf (gradY q (ix2 i x)) := by
  have h5 : Inf (addf (addf (addf (addf (shift12R1 q) q) (shift12L1 q)) (shift12R2 q)) (shift12L2 q) (ix2 ⟨2 + i.val, by omega⟩ x)) := by
    show Inf (shift12R1 q _ + q _ + shift12L1 q _ + shift12R2 q _ + shift12L2 q _)
    exact (((h.add_right _).add_left _).add_left _).add_left _
  unfold gradY
  refine (rowsApart_at _ _ _ _ _ _ _ _ i x).symm ▸ Inf.add_right ?_ _
  rw [w_small]
  exact h5.mul_left small_pos

/-- Magnitudes are not negative. -/
theorem edgeV_nonneg (y : FVec Ideal S520x512 .f32) (k : Fin 64) (j : S8x512.Idx) : 0 ≤ edgeV y k j := by
  unfold edgeV
  generalize gradX (rowV y k 0) (rowV y k 1) (rowV y k 2) (rowV y k 3) (rowV y k 4) = gx
  generalize gradY (rowsV y k) = gy
  show 0 ≤ Ideal.sqrt (gx j * gx j + gy j * gy j + Ideal.ofBits .f32 0x322BCC77#32)
  exact sqrt_nonneg (add_nonneg (add_nonneg (sq_nonneg _) (sq_nonneg _)) word_floor_nonneg)

/-- The magnitude is infinite where the vertical gradient is. -/
theorem edgeV_inf (y : FVec Ideal S520x512 .f32) (k : Fin 64) (j : S8x512.Idx) (h : Inf (gradY (rowsV y k) j)) : edgeV y k j = ⊤ := by
  unfold edgeV
  generalize gradX (rowV y k 0) (rowV y k 1) (rowV y k 2) (rowV y k 3) (rowV y k 4) = gx
  generalize gradY (rowsV y k) = gy at *
  show Ideal.sqrt (gx j * gx j + gy j * gy j + Ideal.ofBits .f32 0x322BCC77#32) = ⊤
  rw [h.sq, add_comm (gx j * gx j), top_add (sq_nonneg _), top_add word_floor_nonneg]
  rfl

/-- The bands' magnitudes added up are not negative, and are infinite on top of an infinity. -/
theorem edgesV_nonneg (y : FVec Ideal S520x512 .f32) (j : S8x512.Idx) :
    ∀ (ks : List (Fin 64)) (acc : FVec Ideal S8x512 .f32), (0 : EReal) ≤ acc j → (0 : EReal) ≤ edgesV y ks acc j
  | [], _, h => h
  | k :: ks, acc, h => edgesV_nonneg y j ks _ (add_nonneg h (edgeV_nonneg y k j) : (0 : EReal) ≤ acc j + edgeV y k j)
@[inherit_doc edgesV_nonneg] theorem edgesV_top (y : FVec Ideal S520x512 .f32) (j : S8x512.Idx) :
    ∀ (ks : List (Fin 64)) (acc : FVec Ideal S8x512 .f32), acc j = (⊤ : EReal) → edgesV y ks acc j = (⊤ : EReal)
  | [], _, h => h
  | k :: ks, acc, h => edgesV_top y j ks _ (by show acc j + edgeV y k j = _; rw [h]; exact top_add (edgeV_nonneg y k j))

theorem allEdgesV_nonneg (y : FVec Ideal S520x512 .f32) (j : S8x512.Idx) : (0 : EReal) ≤ allEdgesV y j :=
  edgesV_nonneg y j laterBands (edgeV y 0) (edgeV_nonneg y 0 j)

/-- The sum of all magnitudes. -/
theorem total_nonneg (y : FVec Ideal S520x512 .f32) : (0 : EReal) ≤ total (allEdgesV y) := by
  rw [total_sum]
  exact Finset.sum_nonneg fun i _ => Finset.sum_nonneg fun x _ => allEdgesV_nonneg y _

/-- It is infinite when the map's first entry is. -/
theorem total_inf (y : FVec Ideal S520x512 .f32) (h : Inf (y (ix2 2 0))) : total (allEdgesV y) = (⊤ : EReal) := by
  have hq : rowsV y 0 (ix2 ⟨2 + (0 : Fin 8).val, by omega⟩ 0) = y (ix2 2 0) := congrArg y (by funext a; fin_cases a <;> rfl)
  have hg : Inf (gradY (rowsV y 0) (ix2 0 0)) := gradY_inf _ 0 0 (hq.symm ▸ h)
  rw [total_sum]
  exact sum_top Finset.univ (fun i : Fin 8 => ∑ x : Fin 512, allEdgesV y (ix2 i x)) (fun i => Finset.sum_nonneg fun x _ => allEdgesV_nonneg y _) 0 (Finset.mem_univ _)
    (sum_top Finset.univ (fun x : Fin 512 => allEdgesV y (ix2 0 x)) (fun x => allEdgesV_nonneg y _) 0 (Finset.mem_univ _)
      (edgesV_top y _ laterBands _ (edgeV_inf y 0 _ hg)))

/-! ## The result -/

variable {m : (ℓ : Loc nD τ sig) → Buf (Elt Ideal) ℓ} {c : Dev nD} {X : Fin 4 → Fin 21 → Map}

/-- The first entry of the weighted softmax is infinite. -/
theorem full_inf (h : Scores m c X) (n : Fin 4) (k : Fin 20) (hk : Inf (m ((c.tc : Thread nD τ).loc main_arg1) (ix2 n k.succ))) :
    Inf (full m c n (ix2 2 0)) := by
  show Inf (bandV (pt n 0) (tab m c) (img m c n 0) 0 (at16 0 0))
  rw [at16_eq]
  refine softV_inf _ _ _ (fun k => X n k 0 0) (fun k => ?_) k ?_
  · rw [segV_at, img_at]; exact h ..
  · rw [wgtV_at, tab_at]; exact hk

/-- The kernel's result. -/
theorem resultAt_inf (h : Scores m c X) (n : Fin 4) (k : Fin 20) (hk : Inf (m ((c.tc : Thread nD τ).loc main_arg1) (ix2 n k.succ))) :
    resultAt m c = fun _ => (⊤ : EReal) := by
  funext j
  have ht : ∀ j, outAt m c 3 j = (⊤ : EReal) := fun j => by
    rw [out_sum, ← Fin.sum_univ_four fun n => total (allEdgesV (full m c n))]
    exact sum_top Finset.univ (fun n => total (allEdgesV (full m c n))) (fun n => total_nonneg _) n (Finset.mem_univ _) (total_inf _ (full_inf h n k hk))
  unfold resultAt
  show Ideal.div (shapeCast S_ (outAt m c 3) _ j) (Ideal.ofBits .f32 0x49800000#32) = _
  unfold shapeCast
  rw [ht]
  exact mean_top

end Cert.KernelIdeal.Structured

end
-- ==== Proof.RefAt.lean ====
/-
  The reference's softmax at a position, of real arguments, and the softmax with zeros around the image.
-/
module

public import proofs.«01_k».proof.Proof.Gen.ReferenceIdeal.Run
public import proofs.«01_k».proof.Proof.Formula
public import Idealize.ShloMosaic.Lib.Tactic.CleanTypes

@[expose] public section

noncomputable section

namespace Cert.ReferenceIdeal.At

open Idealize.ShloMosaic Idealize.ShloMosaic.TcCoe Idealize.ShloMosaic.StableHlo
open Cert.ReferenceIdeal Cert.ReferenceIdeal.Gen Cert.ReferenceIdeal.Value Cert.Formula Cert.Consts

variable (V : Valuation τ sig (Elt Ideal))

/-- The scores are the reals `X`. -/
def Scores (X : Fin 4 → Fin 21 → Map) : Prop :=
  ∀ n k y x, (V (Proc.devRef .tc main_arg0) : FVec Ideal S4x21x512x512 .f32) (ix4 n k y x) = ((X n k y x : ℝ) : EReal)

/-- The scores are the reals `X`, and the weights of the foreground classes the reals `W`. -/
structure Reals (X : Fin 4 → Fin 21 → Map) (W : Fin 4 → Fin 21 → ℝ) : Prop where
  scores : Scores V X
  weights : ∀ n (k : Fin 20), (V (Proc.devRef .tc main_arg1) : FVec Ideal S4x21 .f32) (ix2 n k.succ) = ((W n k.succ : ℝ) : EReal)

variable {V} {X : Fin 4 → Fin 21 → Map}

/-- The scaled scores. -/
theorem scaled_at (h : Scores V X) (n : Fin 4) (k : Fin 21) (y x : Fin 512) :
    (res_main_v1 V : FVec Ideal S4x21x512x512 .f32) (ix4 n k y x) = ((1000 * X n k y x : ℝ) : EReal) := by
  unfold res_main_v1
  clean_types
  pointwise
  rw [h n k y x, w_thousand, ← EReal.coe_mul, mul_comm]

/-- The greatest of 21 reals is real. -/
theorem fold_real (g : Fin 21 → ℝ) : ∃ M : ℝ, Finset.univ.fold max (⊥ : EReal) (fun k => ((g k : ℝ) : EReal)) = ((M : ℝ) : EReal) := by
  refine ⟨_, (EReal.coe_toReal (ne_of_lt ?_) (ne_of_gt ?_)).symm⟩
  · exact (Finset.fold_max_lt _).2 ⟨bot_lt_top, fun k _ => EReal.coe_lt_top _⟩
  · exact (Finset.lt_fold_max _).2 (Or.inr ⟨0, Finset.mem_univ _, EReal.bot_lt_coe _⟩)

/-- The greatest score over the classes. -/
theorem top_at (v : FVec Ideal S4x21x512x512 .f32) (n : Fin 4) (y x : Fin 512) :
    Host.reduce FloatOps.maximumf v (constant S_ .f32 0xFF800000#32) reducesTo_S4x21x512x512_S4x512x512_d1 h_S_ (ix3 n y x)
      = Finset.univ.fold max (Ideal.ofBits .f32 0xFF800000#32) (fun k => v (ix4 n k y x)) := by
  pointwise

/-- The exponential of a score less a number for its position. -/
theorem less_at (v : FVec Ideal S4x21x512x512 .f32) (t : FVec Ideal S4x512x512 .f32) (n : Fin 4) (k : Fin 21) (y x : Fin 512) :
    Host.exp (subf v (broadcastInDim S4x21x512x512 ![0, 1, 2, 3] bcast_S4x1x512x512_S4x21x512x512_0_1_2_3
      (broadcastInDim S4x1x512x512 ![0, 2, 3] bcast_S4x512x512_S4x1x512x512_0_2_3
        (maximumf (broadcastInDim S4x512x512 ![] bcast_S_S4x512x512 (constant S_ .f32 0xFF800000#32)) t)))) (ix4 n k y x)
      = Ideal.exp (v (ix4 n k y x) - max (Ideal.ofBits .f32 0xFF800000#32) (t (ix3 n y x))) := by
  pointwise

theorem expd_at (h : Scores V X) (n : Fin 4) (y x : Fin 512) :
    ∃ M : ℝ, ∀ k : Fin 21, (res_main_v8 V : FVec Ideal S4x21x512x512 .f32) (ix4 n k y x) = ((Real.exp (1000 * X n k y x - M) : ℝ) : EReal) := by
  obtain ⟨M, hM⟩ := fold_real fun k => 1000 * X n k y x
  refine ⟨M, fun k => (less_at _ _ n k y x).trans ?_⟩
  rw [top_at, w_bot, max_eq_right bot_le]
  simp only [scaled_at h]
  rw [hM, ← EReal.coe_sub, Ideal.exp_coe]

theorem soft_at (h : Scores V X) (n : Fin 4) (c : Fin 20) (y x : Fin 512) :
    (res_main_v13 V : FVec Ideal S4x20x512x512 .f32) (ix4 n c y x) = ((soft (fun k => X n k y x) c.succ : ℝ) : EReal) := by
  obtain ⟨M, hM⟩ := expd_at h n y x
  have hs : (res_main_v13 V : FVec Ideal S4x20x512x512 .f32) (ix4 n c y x)
      = Ideal.div (res_main_v8 V (ix4 n c.succ y x)) (∑ k : Fin 21, res_main_v8 V (ix4 n k y x)) := by
    unfold res_main_v13
    clean_types
    pointwise
    congr 2
    exact congrArg (fun k => ix4 n k y x) (Fin.ext (Nat.add_comm 1 c.val))
  rw [hs]
  simp only [hM]
  rw [coe_sum, Ideal.div_coe (sum_exp_pos _).ne', ← EReal.coe_mul, mul_one_div, soft_shift (fun k => X n k y x)]

/-- The softmax of class `c` over the image. -/
abbrev softMap (X : Fin 4 → Fin 21 → Map) (n : Fin 4) (c : Fin 20) : Map := fun y x => soft (fun k => X n k y x) c.succ

theorem pad_at (h : Scores V X) (n : Fin 4) (c : Fin 20) (r q : Fin 516) :
    (res_main_v14 V : FVec Ideal S4x20x516x516 .f32) (ix4 n c r q) = ((around (softMap X n c) r.val q.val : ℝ) : EReal) := by
  unfold res_main_v14
  clean_types
  pointwise
  unfold around
  by_cases hr : (2 ≤ r.val ∧ r.val < 514) ∧ (2 ≤ q.val ∧ q.val < 514)
  · rw [dif_pos hr, dif_pos (by omega)]
    exact soft_at h n c _ _
  · rw [dif_neg hr, dif_neg (by omega)]
    show (((0#32 : BitVec 32).toInt : ℝ) : EReal) = _
    norm_num

end Cert.ReferenceIdeal.At

end
-- ==== Proof.RefGrad.lean ====
/-
  The reference's two correlations at a position, as running sums over the masks' entries.
-/
module

public import proofs.«01_k».proof.Proof.RefAt

@[expose] public section

noncomputable section

namespace Cert.ReferenceIdeal.At

open Idealize.ShloMosaic Idealize.ShloMosaic.TcCoe Idealize.ShloMosaic.StableHlo
open Cert.ReferenceIdeal Cert.ReferenceIdeal.Gen Cert.ReferenceIdeal.Value Cert.Formula Cert.Consts

/-- The float words of the masks. -/
def wordX : Fin 5 → Fin 5 → BitVec 32 :=
  ![![0x40000000#32, 0x3F800000#32, 0x358637BD#32, 0xBF800000#32, 0xC0000000#32],
    ![0x40400000#32, 0x40000000#32, 0x358637BD#32, 0xC0000000#32, 0xC0400000#32],
    ![0x40800000#32, 0x40400000#32, 0x00000000#32, 0xC0400000#32, 0xC0800000#32],
    ![0x40400000#32, 0x40000000#32, 0x358637BD#32, 0xC0000000#32, 0xC0400000#32],
    ![0x40000000#32, 0x3F800000#32, 0x358637BD#32, 0xBF800000#32, 0xC0000000#32]]
@[inherit_doc wordX] def wordY : Fin 5 → Fin 5 → BitVec 32 :=
  ![![0x40000000#32, 0x40400000#32, 0x40800000#32, 0x40400000#32, 0x40000000#32],
    ![0x3F800000#32, 0x40000000#32, 0x40400000#32, 0x40000000#32, 0x3F800000#32],
    ![0x358637BD#32, 0x358637BD#32, 0x358637BD#32, 0x358637BD#32, 0x358637BD#32],
    ![0xBF800000#32, 0xC0000000#32, 0xC0400000#32, 0xC0000000#32, 0xBF800000#32],
    ![0xC0000000#32, 0xC0400000#32, 0xC0800000#32, 0xC0400000#32, 0xC0000000#32]]

/-- `g` are the numbers of the words `w`. -/
abbrev Words (w : Fin 5 → Fin 5 → BitVec 32) (g : Fin 5 → Fin 5 → ℝ) : Prop := ∀ i j, Ideal.ofBits .f32 (w i j) = ((g i j : ℝ) : EReal)

theorem wordX_at : Words wordX maskX := by
  intro i j
  fin_cases i <;> fin_cases j <;>
    first
      | exact w_zero | exact w_small | exact w_one | exact w_two | exact w_three | exact w_four | exact w_neg_one | exact w_neg_two | exact w_neg_three | exact w_neg_four

theorem wordY_at : Words wordY maskY := by
  intro i j
  fin_cases i <;> fin_cases j <;>
    first
      | exact w_small | exact w_one | exact w_two | exact w_three | exact w_four | exact w_neg_one | exact w_neg_two | exact w_neg_three | exact w_neg_four

theorem slices5 (i j : Fin 5) : S4x20x516x516.Slices ![0, 0, i.val, j.val] S4x20x512x512 := by
  revert i j; decide

/-- The running sum over the mask's entries `l`, from `acc`. -/
def taps (w : Fin 5 → Fin 5 → BitVec 32) (p : FVec Ideal S4x20x516x516 .f32) :
    List (Fin 5 × Fin 5) → FVec Ideal S4x20x512x512 .f32 → FVec Ideal S4x20x512x512 .f32
  | [], acc => acc
  | t :: l, acc => taps w p l (addf acc (mulf (extractStridedSlice S4x20x512x512 ![0, 0, t.1.val, t.2.val] p (slices5 t.1 t.2))
      (broadcastInDim S4x20x512x512 ![] bcast_S_S4x20x512x512 (constant S_ .f32 (w t.1 t.2)))))

theorem tap_at (p : FVec Ideal S4x20x516x516 .f32) (acc : FVec Ideal S4x20x512x512 .f32) (w : BitVec 32) (i j : Fin 5)
    (n : Fin 4) (c : Fin 20) (y x : Fin 512) :
    addf acc (mulf (extractStridedSlice S4x20x512x512 ![0, 0, i.val, j.val] p (slices5 i j))
      (broadcastInDim S4x20x512x512 ![] bcast_S_S4x20x512x512 (constant S_ .f32 w))) (ix4 n c y x)
      = acc (ix4 n c y x) + p (ix4 n c ⟨y.val + i.val, by omega⟩ ⟨x.val + j.val, by omega⟩) * Ideal.ofBits .f32 w := by
  show acc _ + p _ * Ideal.ofBits .f32 w = _
  congr 2
  refine congrArg p (funext fun a => Fin.ext ?_)
  match a with
  | ⟨0, _⟩ => exact Nat.zero_add n.val
  | ⟨1, _⟩ => exact Nat.zero_add c.val
  | ⟨2, _⟩ => exact Nat.add_comm i.val y.val
  | ⟨3, _⟩ => exact Nat.add_comm j.val x.val

/-- The running sum is the sum of its terms. -/
theorem taps_at {w : Fin 5 → Fin 5 → BitVec 32} {g : Fin 5 → Fin 5 → ℝ} (hw : Words w g) (p : FVec Ideal S4x20x516x516 .f32) (f : Map)
    (n : Fin 4) (c : Fin 20) (hp : ∀ r q : Fin 516, p (ix4 n c r q) = ((around f r.val q.val : ℝ) : EReal)) (y x : Fin 512) :
    ∀ (l : List (Fin 5 × Fin 5)) (acc : FVec Ideal S4x20x512x512 .f32) (a : ℝ), acc (ix4 n c y x) = ((a : ℝ) : EReal) →
      taps w p l acc (ix4 n c y x)
        = ((a + (l.map fun t => around f (y.val + t.1.val) (x.val + t.2.val) * g t.1 t.2).sum : ℝ) : EReal)
  | [], acc, a, ha => by simpa [taps] using ha
  | t :: l, acc, a, ha => by
    refine (taps_at hw p f n c hp y x l _ (a + around f (y.val + t.1.val) (x.val + t.2.val) * g t.1 t.2)
      ((tap_at p acc _ t.1 t.2 n c y x).trans ?_)).trans (congrArg _ ?_)
    · rw [ha, hp, hw, ← EReal.coe_mul, ← EReal.coe_add]
    · rw [List.map_cons, List.sum_cons, add_assoc]

/-- All entries of a mask, row by row: the first nineteen and the rest. -/
abbrev firstEntries : List (Fin 5 × Fin 5) :=
  [(0, 0), (0, 1), (0, 2), (0, 3), (0, 4), (1, 0), (1, 1), (1, 2), (1, 3), (1, 4), (2, 0), (2, 1), (2, 2), (2, 3), (2, 4),
    (3, 0), (3, 1), (3, 2), (3, 3)]
@[inherit_doc firstEntries] abbrev lastEntries : List (Fin 5 × Fin 5) := [(3, 4), (4, 0), (4, 1), (4, 2), (4, 3), (4, 4)]

/-- The correlation with a mask. -/
def corrV (w : Fin 5 → Fin 5 → BitVec 32) (p : FVec Ideal S4x20x516x516 .f32) : FVec Ideal S4x20x512x512 .f32 :=
  taps w p lastEntries (taps w p firstEntries (broadcastInDim S4x20x512x512 ![] bcast_S_S4x20x512x512 (constant S_ .f32 0x00000000#32)))

theorem corrV_at {w : Fin 5 → Fin 5 → BitVec 32} {g : Fin 5 → Fin 5 → ℝ} (hw : Words w g) (p : FVec Ideal S4x20x516x516 .f32) (f : Map)
    (n : Fin 4) (c : Fin 20) (hp : ∀ r q : Fin 516, p (ix4 n c r q) = ((around f r.val q.val : ℝ) : EReal)) (y x : Fin 512) :
    corrV w p (ix4 n c y x) = ((corr g f y.val x.val : ℝ) : EReal) := by
  refine (taps_at hw p f n c hp y x _ _ _ (taps_at hw p f n c hp y x _ _ 0 w_zero)).trans (congrArg _ ?_)
  unfold corr
  simp only [Fin.sum_univ_five, List.map_cons, List.map_nil, List.sum_cons, List.sum_nil]
  ring

variable (V : Valuation τ sig (Elt Ideal))

theorem v91_eq : res_main_v91 V = taps wordX (res_main_v14 V) firstEntries
    (broadcastInDim S4x20x512x512 ![] bcast_S_S4x20x512x512 (constant S_ .f32 0x00000000#32)) := rfl

theorem v193_eq : res_main_v193 V = taps wordY (res_main_v14 V) firstEntries
    (broadcastInDim S4x20x512x512 ![] bcast_S_S4x20x512x512 (constant S_ .f32 0x00000000#32)) := rfl

/-- Two correlations side by side, weighted by class and summed over the classes. -/
def weighted (a b : FVec Ideal S4x20x512x512 .f32) (w : FVec Ideal S4x21 .f32) : FVec Ideal S4x2x512x512 .f32 :=
  Host.reduceAdd (mulf (concatenate S4x20x2x512x512 2
      [⟨S4x20x1x512x512, broadcastInDim S4x20x1x512x512 ![0, 1, 3, 4] bcast_S4x20x512x512_S4x20x1x512x512_0_1_3_4 a⟩,
        ⟨S4x20x1x512x512, broadcastInDim S4x20x1x512x512 ![0, 1, 3, 4] bcast_S4x20x512x512_S4x20x1x512x512_0_1_3_4 b⟩]
      concatenates_S4x20x1x512x512_S4x20x1x512x512_S4x20x2x512x512_d2)
    (broadcastInDim S4x20x2x512x512 ![0, 1, 2, 3, 4] bcast_S4x20x1x1x1_S4x20x2x512x512_0_1_2_3_4
      (broadcastInDim S4x20x1x1x1 ![0, 1] bcast_S4x20_S4x20x1x1x1_0_1
        (extractStridedSlice S4x20 ![0, 1] w slices_S4x21_S4x20_0_1))))
    (constant S_ .f32 0x00000000#32) reducesTo_S4x20x2x512x512_S4x2x512x512_d1 h_S_

theorem v225_eq : res_main_v225 V = weighted (corrV wordX (res_main_v14 V)) (corrV wordY (res_main_v14 V)) (V (Proc.devRef .tc main_arg1)) := rfl

theorem weighted_at (a b : FVec Ideal S4x20x512x512 .f32) (w : FVec Ideal S4x21 .f32) (n : Fin 4) (g : Fin 2) (y x : Fin 512) :
    weighted a b w (ix4 n g y x) = ∑ c : Fin 20, (if g.val < 1 then a (ix4 n c y x) else b (ix4 n c y x)) * w (ix2 n c.succ) := by
  pointwise [weighted]
  refine Finset.sum_congr rfl fun c _ => congrArg _ (congrArg (fun k => w (ix2 n k)) (Fin.ext ?_))
  exact Nat.add_comm 1 c.val

/-- The mean over all positions of the root of the summed squares. -/
def meanV (v : FVec Ideal S4x2x512x512 .f32) : FVec Ideal S_ .f32 :=
  Host.divf (Host.reduceAdd (Host.sqrt (addf (Host.reduceAdd (mulf v v) (constant S_ .f32 0x00000000#32) reducesTo_S4x2x512x512_S4x512x512_d1 h_S_)
    (broadcastInDim S4x512x512 ![] bcast_S_S4x512x512 (constant S_ .f32 0x322BCC77#32)))) (constant S_ .f32 0x00000000#32)
    reducesTo_S4x512x512_S_d0_1_2 h_S_) (constant S_ .f32 0x49800000#32)

theorem meanV_at (v : FVec Ideal S4x2x512x512 .f32) (j : S_.Idx) :
    meanV v j = Ideal.div (∑ n : Fin 4, ∑ y : Fin 512, ∑ x : Fin 512, Ideal.sqrt (∑ g : Fin 2, v (ix4 n g y x) * v (ix4 n g y x) + Ideal.ofBits .f32 0x322BCC77#32))
      (Ideal.ofBits .f32 0x49800000#32) := by
  pointwise [meanV]

variable {V} {X : Fin 4 → Fin 21 → Map} {W : Fin 4 → Fin 21 → ℝ}

/-- The weighted softmax of batch entry `n`. -/
abbrev mixed (X : Fin 4 → Fin 21 → Map) (W : Fin 4 → Fin 21 → ℝ) (n : Fin 4) : Map := fun r q => mix (fun k => X n k r q) (W n)

/-- The weighted correlations are the correlations of the weighted softmax. -/
theorem v225_at (h : Reals V X W) (n : Fin 4) (g : Fin 2) (y x : Fin 512) :
    (res_main_v225 V : FVec Ideal S4x2x512x512 .f32) (ix4 n g y x)
      = ((corr (if g.val < 1 then maskX else maskY) (mixed X W n) y.val x.val : ℝ) : EReal) := by
  rw [v225_eq, weighted_at]
  have hc (c : Fin 20) : (if g.val < 1 then corrV wordX (res_main_v14 V) (ix4 n c y x) else corrV wordY (res_main_v14 V) (ix4 n c y x))
      = ((corr (if g.val < 1 then maskX else maskY) (softMap X n c) y.val x.val : ℝ) : EReal) := by
    split
    · exact corrV_at wordX_at _ _ n c (pad_at h.scores n c) y x
    · exact corrV_at wordY_at _ _ n c (pad_at h.scores n c) y x
  simp only [hc, h.weights, ← EReal.coe_mul, coe_sum]
  exact congrArg _ (corr_sum _ (softMap X n) (fun c => W n c.succ) y.val x.val).symm

/-- The mean of magnitudes from two correlations of real maps. -/
theorem meanV_real (v : FVec Ideal S4x2x512x512 .f32) (f : Fin 4 → Map)
    (hv : ∀ n (g : Fin 2) y x, v (ix4 n g y x) = ((corr (if g.val < 1 then maskX else maskY) (f n) y.val x.val : ℝ) : EReal)) (j : S_.Idx) :
    meanV v j = (((∑ n : Fin 4, ∑ y : Fin 512, ∑ x : Fin 512, magnitude (f n) y.val x.val) / 1048576 : ℝ) : EReal) := by
  rw [meanV_at]
  have hp (n : Fin 4) (y x : Fin 512) :
      Ideal.sqrt (∑ g : Fin 2, v (ix4 n g y x) * v (ix4 n g y x) + Ideal.ofBits .f32 0x322BCC77#32)
        = ((magnitude (f n) y.val x.val : ℝ) : EReal) := by
    simp only [hv, ← EReal.coe_mul, coe_sum, w_floor, ← EReal.coe_add, Fin.sum_univ_two]
    rw [Ideal.sqrt_coe, if_neg (not_lt.mpr (add_nonneg (add_nonneg (mul_self_nonneg _) (mul_self_nonneg _)) floor_nonneg))]
    rfl
  simp only [hp, coe_sum, w_count]
  rw [Ideal.div_coe (by norm_num), ← EReal.coe_mul, mul_one_div]

/-- The reference's result of real arguments. -/
theorem mean_real (h : Reals V X W) : meanV (res_main_v225 V) = fun _ => ((result X W : ℝ) : EReal) :=
  funext fun j => meanV_real _ (mixed X W) (v225_at h) j

end Cert.ReferenceIdeal.At

end
-- ==== Proof.RefInf.lean ====
/-
  The reference's result where a foreground class has an infinite weight: infinity.
-/
module

public import proofs.«01_k».proof.Proof.RefGrad
public import proofs.«01_k».proof.Proof.Infinite

@[expose] public section

noncomputable section

namespace Cert.ReferenceIdeal.At

open Idealize.ShloMosaic Idealize.ShloMosaic.TcCoe Idealize.ShloMosaic.StableHlo
open Cert.ReferenceIdeal Cert.ReferenceIdeal.Gen Cert.ReferenceIdeal.Value Cert.Formula Cert.Consts Cert.Infinite

variable {V : Valuation τ sig (Elt Ideal)} {X : Fin 4 → Fin 21 → Map}

/-- On the image's last row the weighted vertical correlation is infinite. -/
theorem v225_inf (h : Scores V X) (n : Fin 4) (c : Fin 20)
    (hc : Inf ((V (Proc.devRef .tc main_arg1) : FVec Ideal S4x21 .f32) (ix2 n c.succ))) :
    Inf ((res_main_v225 V : FVec Ideal S4x2x512x512 .f32) (ix4 n 1 511 0)) := by
  rw [v225_eq, weighted_at]
  refine Inf.sum _ _ c (Finset.mem_univ _) ?_
  rw [if_neg (by decide), corrV_at wordY_at _ _ n c (pad_at h n c) 511 0]
  exact hc.mul_left (corr_last_pos (softMap X n c) (fun _ _ => soft_pos _ _) 0)

/-- The mean of the magnitudes where a correlation is infinite. -/
theorem meanV_inf (v : FVec Ideal S4x2x512x512 .f32) (n : Fin 4) (g : Fin 2) (y x : Fin 512) (h : Inf (v (ix4 n g y x))) (j : S_.Idx) :
    meanV v j = ⊤ := by
  have h0 (n : Fin 4) (y x : Fin 512) : 0 ≤ Ideal.sqrt (∑ g : Fin 2, v (ix4 n g y x) * v (ix4 n g y x) + Ideal.ofBits .f32 0x322BCC77#32) :=
    sqrt_nonneg (add_nonneg (Finset.sum_nonneg fun g _ => sq_nonneg _) word_floor_nonneg)
  have h1 : Ideal.sqrt (∑ g : Fin 2, v (ix4 n g y x) * v (ix4 n g y x) + Ideal.ofBits .f32 0x322BCC77#32) = ⊤ := by
    rw [sum_top _ (fun g => v (ix4 n g y x) * v (ix4 n g y x)) (fun g => sq_nonneg _) g (Finset.mem_univ _) h.sq, top_add word_floor_nonneg]
    rfl
  rw [meanV_at, sum_top Finset.univ _ (fun n => Finset.sum_nonneg fun y _ => Finset.sum_nonneg fun x _ => h0 n y x) n (Finset.mem_univ _)
    (sum_top _ _ (fun y => Finset.sum_nonneg fun x _ => h0 n y x) y (Finset.mem_univ _) (sum_top _ _ (fun x => h0 n y x) x (Finset.mem_univ _) h1))]
  exact mean_top

/-- The reference's result. -/
theorem mean_inf (h : Scores V X) (n : Fin 4) (c : Fin 20)
    (hc : Inf ((V (Proc.devRef .tc main_arg1) : FVec Ideal S4x21 .f32) (ix2 n c.succ))) : meanV (res_main_v225 V) = fun _ => ⊤ :=
  funext fun j => meanV_inf _ n 1 511 0 (v225_inf h n c hc) j

end Cert.ReferenceIdeal.At

end
-- ==== Proof.Inputs.lean ====
/-
  Scores that hold no infinity are reals.
-/
module

public import proofs.«01_k».proof.Defs
public import Idealize.ShloMosaic.Lib.ReduceAll
public import Idealize.ShloMosaic.Lib.Pointwise
public import proofs.«01_k».proof.Proof.Consts

@[expose] public section

noncomputable section

namespace Cert.Inputs

open Idealize.ShloMosaic

/-- An extended real whose absolute value is below infinity is a real. -/
theorem real_of_abs_lt (a : EReal) (h : max a (-a) < ⊤) : ((a.toReal : ℝ) : EReal) = a := by
  refine EReal.coe_toReal ?_ ?_
  · rintro rfl; simp at h
  · rintro rfl; simp at h

/-- The comparison's word is 1 only where the comparison holds. -/
theorem lt_of_word (a b : EReal) (h : Ideal.cmp .olt a b = 1#1) : a < b := by
  by_contra hn
  unfold Ideal.cmp at h
  simp [hn] at h

open Cert.Pre_finite_scores

instance : Subsingleton S_.Idx := ⟨fun _ _ => funext fun a => a.elim0⟩

/-- Every entry of an array whose check for infinities is 1 is a real. -/
theorem all_real {s : Shape} {axes : List (Fin s.rank)} (v : FVec Ideal s .f32) (hb : S_.BroadcastsInDim s (![] : Fin 0 → Fin s.rank))
    (init : S_.Idx → BitVec 1) (hr : s.ReducesTo axes S_) (hu : 0 < S_.numel) (j : S_.Idx)
    (e : Host.reduce IntOp.andi (cmpf .olt (Host.absf v) (broadcastInDim s ![] hb (constant S_ .f32 0x7F800000#32))) init hr hu j = 1#1)
    (i : s.Idx) : (((v i : EReal).toReal : ℝ) : EReal) = v i := by
  have h : Ideal.cmp .olt (max (v i : EReal) (-(v i : EReal))) (Ideal.ofBits .f32 0x7F800000#32) = 1#1 :=
    Host.reduce_andi_all _ _ hr hu j e i
  rw [Cert.Consts.w_top] at h
  exact real_of_abs_lt _ (lt_of_word _ _ h)

/-- The precondition: the scores are reals. -/
theorem reals [Cert.Pre_finite_scores.Facts] (a : FVec Ideal S4x21x512x512 .f32) (w : FVec Ideal S4x21 .f32) (h : fn a w = fun _ => 1#1)
    (i : S4x21x512x512.Idx) : (((a i : EReal).toReal : ℝ) : EReal) = a i := by
  have h0 := congrFun h (Shape.Idx.first Facts.h_S_)
  unfold fn at h0
  exact all_real a Facts.bcast_S_S4x21x512x512 _ Facts.reducesTo_S4x21x512x512_S_d0_1_2_3 Facts.h_S_ _ h0 i

end Cert.Inputs

end
-- ==== Proof.lean ====
/-
  The proof of `Cert.Claim`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores
public import proofs.«01_k».proof.Proof.Run
public import proofs.«01_k».proof.Proof.Original
public import proofs.«01_k».proof.Proof.ResultInf
public import proofs.«01_k».proof.Proof.RefInf
public import proofs.«01_k».proof.Proof.Inputs
public import Idealize.ShloMosaic.Adequacy
public import Idealize.ShloMosaic.Init

@[expose] public section

noncomputable section

namespace Cert.Proof

open Idealize.ShloMosaic Idealize.SL.Sem Idealize.ShloMosaic.StableHlo Cert.Kernel

/-- The reference's runs write only their own arrays and leave no semaphore up. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The number the scale's rounded constant stands for is the one the table of named constants gives. -/
theorem named_scale : Cert.preserves_Kernel_KernelIdeal :=
  IdealRules.named_const.statement Cert.KernelIdeal.κ "scale" .f32 0x44B4563E#32 (((1000 * (Real.log 2)⁻¹ : ℝ)) : EReal) rfl

/-- On finite scores the idealized kernel's result is the reference's: the mean over the reals where all weights of the foreground
    classes are reals, and infinity where one of them is not. -/
theorem same_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (X : Fin 4 → Fin 21 → Cert.Formula.Map) (hK : Cert.KernelIdeal.Structured.Scores m c X)
    (hR : Cert.ReferenceIdeal.At.Scores (launchContents m' c) X)
    (hw : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.At.meanV (Cert.ReferenceIdeal.Value.res_main_v225 (launchContents m' c)) = Cert.KernelIdeal.Structured.resultAt m c := by
  by_cases h : ∃ (n : Fin 4) (k : Fin 20),
      Cert.Infinite.Inf (m ((c.tc : Thread Cert.KernelIdeal.nD Cert.KernelIdeal.τ).loc Cert.KernelIdeal.main_arg1) (ix2 n k.succ))
  · obtain ⟨n, k, hk⟩ := h
    exact (Cert.ReferenceIdeal.At.mean_inf hR n k (Eq.mpr (congrArg Cert.Infinite.Inf (congrFun hw (ix2 n k.succ))) hk)).trans
      (Cert.KernelIdeal.Structured.resultAt_inf hK n k hk).symm
  · have hr (n : Fin 4) (k : Fin 20) := (Cert.Infinite.real_or _).resolve_right fun hk => h ⟨n, k, hk⟩
    exact (Cert.ReferenceIdeal.At.mean_real
        (W := fun n k => (m ((c.tc : Thread Cert.KernelIdeal.nD Cert.KernelIdeal.τ).loc Cert.KernelIdeal.main_arg1) (ix2 n k)).toReal)
        ⟨hR, fun n k => (congrFun hw (ix2 n k.succ)).trans (hr n k).symm⟩).trans
      (Cert.KernelIdeal.Structured.resultAt_real ⟨hK, fun n k => (hr n k).symm⟩).symm

/-- On finite scores the idealized kernel and the reference end with the same result. -/
theorem same_mean : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' hpre hagree
  refine ⟨fun c => Cert.KernelIdeal.Structured.resultAt m c, Cert.KernelIdeal.Structured.run_value m g,
    (θ_run Cert.ReferenceIdeal.defs _ _).mono (fun r h c => ⟨(h c).1.trans ?_, (h c).2⟩) (Cert.ReferenceIdeal.Value.run (F := Ideal) m' g')⟩
  have hA := Cert.Inputs.reals _ _ (hpre c)
  exact same_value m m' c (fun n k y x => (m ((c.tc : Thread Cert.KernelIdeal.nD Cert.KernelIdeal.τ).loc Cert.KernelIdeal.main_arg0) (ix4 n k y x)).toReal)
    (fun n k y x => (hA _).symm) (fun n k y x => (congrFun (hagree c).1 (ix4 n k y x)).trans (hA _).symm) (hagree c).2

theorem claim : Cert.Claim :=
  ⟨Cert.Kernel.Gen.facts, Cert.KernelIdeal.Gen.facts, Cert.ReferenceIdeal.Gen.facts, Cert.Pre_finite_scores.Gen.facts,
    fun m ρ _ => Cert.Original.frame m ρ, fun m ρ _ => Cert.KernelIdeal.Structured.frame m ρ,
    fun m ρ _ => Cert.KernelIdeal.Structured.frame m ρ, fun m ρ _ => reference_frame m ρ, fun m ρ _ => reference_frame m ρ,
    named_scale, same_mean⟩

end Cert.Proof

end
